-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x4096 : Shape := ⟨2, ![8192, 4096]⟩
abbrev S8192x256 : Shape := ⟨2, ![8192, 256]⟩
abbrev S2x8192x256 : Shape := ⟨3, ![2, 8192, 256]⟩
abbrev S512x4096 : Shape := ⟨2, ![512, 4096]⟩
abbrev S2 : Shape := ⟨1, ![2]⟩
abbrev S16 : Shape := ⟨1, ![16]⟩
abbrev S_ : Shape := ⟨0, ![]⟩
abbrev S1 : Shape := ⟨1, ![1]⟩
abbrev S1x8192x256 : Shape := ⟨3, ![1, 8192, 256]⟩
abbrev S512x256 : Shape := ⟨2, ![512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x8192, .f32⟩
  | .hbm, ⟨1, _⟩ => ⟨S8192x4096, .f32⟩
  | .hbm, ⟨2, _⟩ => ⟨S8192x256, .f32⟩
  | .local _ .vmem, ⟨0, _⟩ => ⟨S512x8192, .f32⟩
  | .local _ .vmem, ⟨1, _⟩ => ⟨S8192x256, .f32⟩
  | .local _ .vmem, ⟨2, _⟩ => ⟨S2x8192x256, .f32⟩
  | .local _ .vmem, ⟨3, _⟩ => ⟨S512x4096, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_61 : BitVec 32) : Fin 2 → Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c0_i32_61
  let c16_i32_62 : BitVec 32 := 16#32
  let v65 : BitVec 32 := Scalar.remsi v64 c16_i32_62
  let c256_i32 : BitVec 32 := 256#32
  let v66 : BitVec 32 := Scalar.muli v65 c256_i32
  ![0, v66.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v95 : BitVec 32 := Scalar.muli v2 c512_i32
  let v96 : Index := Scalar.indexCast v95
  let c0_89 : Index := 0#32
  ![v96.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_115 : BitVec 32 := 512#32
  let v126 : BitVec 32 := Scalar.muli v2 c512_i32_115
  let c0_i32_120 : BitVec 32 := 0#32
  ![v126.toNat, 0]
def k0_dev16 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_106 : BitVec 32 := 1#32
  let v114 : BitVec 32 := Scalar.addi v2 c1_i32_106
  let c16_i32_107 : BitVec 32 := 16#32
  let v115 : BitVec 32 := Scalar.remsi v114 c16_i32_107
  let c1_i32_118 : BitVec 32 := 1#32
  let v127 : BitVec 32 := Scalar.muli v115 c1_i32_118
  let v128 : BitVec 32 := Scalar.addi c0_i32_119 v127
  v128.toNat
def k0_dev17 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_139 : BitVec 32 := 2#32
  let v151 : BitVec 32 := Scalar.addi v2 c2_i32_139
  let c16_i32_140 : BitVec 32 := 16#32
  let v152 : BitVec 32 := Scalar.remsi v151 c16_i32_140
  let c1_i32_152 : BitVec 32 := 1#32
  let v164 : BitVec 32 := Scalar.muli v152 c1_i32_152
  let v165 : BitVec 32 := Scalar.addi c0_i32_153 v164
  v165.toNat
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_173 : BitVec 32 := 3#32
  let v188 : BitVec 32 := Scalar.addi v2 c3_i32_173
  let c16_i32_174 : BitVec 32 := 16#32
  let v189 : BitVec 32 := Scalar.remsi v188 c16_i32_174
  let c1_i32_186 : BitVec 32 := 1#32
  let v201 : BitVec 32 := Scalar.muli v189 c1_i32_186
  let v202 : BitVec 32 := Scalar.addi c0_i32_187 v201
  v202.toNat
def k0_dev19 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_206 : BitVec 32 := 4#32
  let v225 : BitVec 32 := Scalar.addi v2 c4_i32_206
  let c16_i32_207 : BitVec 32 := 16#32
  let v226 : BitVec 32 := Scalar.remsi v225 c16_i32_207
  let c1_i32_219 : BitVec 32 := 1#32
  let v238 : BitVec 32 := Scalar.muli v226 c1_i32_219
  let v239 : BitVec 32 := Scalar.addi c0_i32_220 v238
  v239.toNat
def k0_dev20 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_239 : BitVec 32 := 5#32
  let v262 : BitVec 32 := Scalar.addi v2 c5_i32_239
  let c16_i32_240 : BitVec 32 := 16#32
  let v263 : BitVec 32 := Scalar.remsi v262 c16_i32_240
  let c1_i32_252 : BitVec 32 := 1#32
  let v275 : BitVec 32 := Scalar.muli v263 c1_i32_252
  let v276 : BitVec 32 := Scalar.addi c0_i32_253 v275
  v276.toNat
def k0_dev21 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_272 : BitVec 32 := 6#32
  let v299 : BitVec 32 := Scalar.addi v2 c6_i32_272
  let c16_i32_273 : BitVec 32 := 16#32
  let v300 : BitVec 32 := Scalar.remsi v299 c16_i32_273
  let c1_i32_285 : BitVec 32 := 1#32
  let v312 : BitVec 32 := Scalar.muli v300 c1_i32_285
  let v313 : BitVec 32 := Scalar.addi c0_i32_286 v312
  v313.toNat
def k0_dev22 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_305 : BitVec 32 := 7#32
  let v336 : BitVec 32 := Scalar.addi v2 c7_i32_305
  let c16_i32_306 : BitVec 32 := 16#32
  let v337 : BitVec 32 := Scalar.remsi v336 c16_i32_306
  let c1_i32_318 : BitVec 32 := 1#32
  let v349 : BitVec 32 := Scalar.muli v337 c1_i32_318
  let v350 : BitVec 32 := Scalar.addi c0_i32_319 v349
  v350.toNat
def k0_dev23 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_338 : BitVec 32 := 8#32
  let v373 : BitVec 32 := Scalar.addi v2 c8_i32_338
  let c16_i32_339 : BitVec 32 := 16#32
  let v374 : BitVec 32 := Scalar.remsi v373 c16_i32_339
  let c1_i32_351 : BitVec 32 := 1#32
  let v386 : BitVec 32 := Scalar.muli v374 c1_i32_351
  let v387 : BitVec 32 := Scalar.addi c0_i32_352 v386
  v387.toNat
def k0_dev24 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_371 : BitVec 32 := 9#32
  let v410 : BitVec 32 := Scalar.addi v2 c9_i32_371
  let c16_i32_372 : BitVec 32 := 16#32
  let v411 : BitVec 32 := Scalar.remsi v410 c16_i32_372
  let c1_i32_384 : BitVec 32 := 1#32
  let v423 : BitVec 32 := Scalar.muli v411 c1_i32_384
  let v424 : BitVec 32 := Scalar.addi c0_i32_385 v423
  v424.toNat
def k0_dev25 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_404 : BitVec 32 := 10#32
  let v447 : BitVec 32 := Scalar.addi v2 c10_i32_404
  let c16_i32_405 : BitVec 32 := 16#32
  let v448 : BitVec 32 := Scalar.remsi v447 c16_i32_405
  let c1_i32_417 : BitVec 32 := 1#32
  let v460 : BitVec 32 := Scalar.muli v448 c1_i32_417
  let v461 : BitVec 32 := Scalar.addi c0_i32_418 v460
  v461.toNat
def k0_dev26 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_437 : BitVec 32 := 11#32
  let v484 : BitVec 32 := Scalar.addi v2 c11_i32_437
  let c16_i32_438 : BitVec 32 := 16#32
  let v485 : BitVec 32 := Scalar.remsi v484 c16_i32_438
  let c1_i32_450 : BitVec 32 := 1#32
  let v497 : BitVec 32 := Scalar.muli v485 c1_i32_450
  let v498 : BitVec 32 := Scalar.addi c0_i32_451 v497
  v498.toNat
def k0_dev27 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_470 : BitVec 32 := 12#32
  let v521 : BitVec 32 := Scalar.addi v2 c12_i32_470
  let c16_i32_471 : BitVec 32 := 16#32
  let v522 : BitVec 32 := Scalar.remsi v521 c16_i32_471
  let c1_i32_483 : BitVec 32 := 1#32
  let v534 : BitVec 32 := Scalar.muli v522 c1_i32_483
  let v535 : BitVec 32 := Scalar.addi c0_i32_484 v534
  v535.toNat
def k0_dev28 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_503 : BitVec 32 := 13#32
  let v558 : BitVec 32 := Scalar.addi v2 c13_i32_503
  let c16_i32_504 : BitVec 32 := 16#32
  let v559 : BitVec 32 := Scalar.remsi v558 c16_i32_504
  let c1_i32_516 : BitVec 32 := 1#32
  let v571 : BitVec 32 := Scalar.muli v559 c1_i32_516
  let v572 : BitVec 32 := Scalar.addi c0_i32_517 v571
  v572.toNat
def k0_dev29 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_536 : BitVec 32 := 14#32
  let v595 : BitVec 32 := Scalar.addi v2 c14_i32_536
  let c16_i32_537 : BitVec 32 := 16#32
  let v596 : BitVec 32 := Scalar.remsi v595 c16_i32_537
  let c1_i32_549 : BitVec 32 := 1#32
  let v608 : BitVec 32 := Scalar.muli v596 c1_i32_549
  let v609 : BitVec 32 := Scalar.addi c0_i32_550 v608
  v609.toNat
def k0_dev30 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_561 : BitVec 32 := 15#32
  let v624 : BitVec 32 := Scalar.addi v2 c15_i32_561
  let c16_i32_562 : BitVec 32 := 16#32
  let v625 : BitVec 32 := Scalar.remsi v624 c16_i32_562
  let c1_i32_574 : BitVec 32 := 1#32
  let v637 : BitVec 32 := Scalar.muli v625 c1_i32_574
  let v638 : BitVec 32 := Scalar.addi c0_i32_575 v637
  v638.toNat
def k0_off4 (d0 : Dev nD) (c1_i32_668 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v705 : BitVec 32 := Scalar.subi v2 c1_i32_668
  let c16_i32_669 : BitVec 32 := 16#32
  let v706 : BitVec 32 := Scalar.addi v705 c16_i32_669
  let c16_i32_670 : BitVec 32 := 16#32
  let v707 : BitVec 32 := Scalar.remsi v706 c16_i32_670
  let c512_i32_671 : BitVec 32 := 512#32
  let v708 : BitVec 32 := Scalar.muli v707 c512_i32_671
  let c0_i32_676 : BitVec 32 := 0#32
  ![v708.toNat, 0]
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Blocks.lean ====
/-
The ring of sixteen devices and the blocks of the kernel's buffers.

Device `c` sends at offset `t` to the device `t` places further on. Its buffers are cut as follows: the result
into sixteen row blocks, one for each sending device; the staging array `y` into sixteen column blocks, one for
each offset; `w` into sixteen column blocks, one for each receiving device; and the tile of `w` into two slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Scatter

open Cert.KernelIdeal Cert.KernelIdeal.Gen
open Idealize.ShloMosaic
open Idealize.ShloMosaic.TcCoe

/-! ## The ring -/

/-- The device `t` places after `c`. -/
def peer (c : Dev nD) (t : ℕ) : Dev nD := ⟨(c.val + t) % 16, Nat.mod_lt _ (by decide)⟩

/-- The device `t` places before `c`. -/
def back (c : Dev nD) (t : ℕ) : Dev nD := ⟨(c.val + 15 * t) % 16, Nat.mod_lt _ (by decide)⟩

/-- The number of the device `t` places after `c`. -/
theorem peer_val (c : Dev nD) (t : ℕ) : (peer c t).val = (c.val + t) % 16 := rfl
/-- The number of the device `t` places before `c`. -/
theorem back_val (c : Dev nD) (t : ℕ) : (back c t).val = (c.val + 15 * t) % 16 := rfl
/-- A device has a number below sixteen. -/
theorem dev_lt (c : Dev nD) : c.val < 16 := c.isLt

/-- Going `t` places back and then `t` places on returns. -/
theorem peer_back (c : Dev nD) (t : ℕ) : peer (back c t) t = c := by
  apply Fin.ext; have := dev_lt c; simp only [peer_val, back_val]; omega

/-- Going `t` places on and then `t` places back returns. -/
theorem back_peer (c : Dev nD) (t : ℕ) : back (peer c t) t = c := by
  apply Fin.ext; have := dev_lt c; simp only [peer_val, back_val]; omega

/-- The step of `t` places round the ring, as a permutation. -/
def ring (t : ℕ) : Dev nD ≃ Dev nD :=
  ⟨fun c => peer c t, fun c => back c t, fun c => back_peer c t, fun c => peer_back c t⟩

/-- Different offsets below sixteen lead to different devices. -/
theorem peer_inj {c : Dev nD} {t t' : ℕ} (h : t < 16) (h' : t' < 16) (e : peer c t = peer c t') : t = t' := by
  have e := congrArg Fin.val e; have := dev_lt c; simp only [peer_val] at e; omega

/-! ## The buffers -/

/-- A device's rows of `x`, in its fast memory. -/
abbrev xM : Memref sig .tc .vmem S512x8192 .f32 := Memref.whole cc0_stg0_0
/-- A device's copy of `w`, in its main memory. -/
abbrev wM : Memref sig .tc .hbm S8192x4096 .f32 := Memref.whole main_arg1
/-- A device's result. -/
abbrev oM : Memref sig .tc .vmem S8192x256 .f32 := Memref.whole cc0_stg1_0
/-- The tile of `w`: two slots of one column block each. -/
abbrev tM : Memref sig .tc .vmem S2x8192x256 .f32 := Memref.whole cc0_scratch0
/-- The staging array for the products to be sent. -/
abbrev yM : Memref sig .tc .vmem S512x4096 .f32 := Memref.whole cc0_scratch1

/-- Row block `s` lies inside the result. -/
theorem row_inb (s : Dev nD) : ∀ a, (![512 * s.val, 0] : Fin 2 → ℕ) a + S512x256.size a ≤ S8192x256.size a := by
  revert s; decide
/-- Column block `t mod 16` lies inside the staging array. -/
theorem ycol_inb (t : ℕ) : ∀ a, (![0, 256 * (t % 16)] : Fin 2 → ℕ) a + S512x256.size a ≤ S512x4096.size a := by
  have h : ∀ t : Fin 16, ∀ a, (![0, 256 * t.val] : Fin 2 → ℕ) a + S512x256.size a ≤ S512x4096.size a := by decide
  exact h ⟨t % 16, Nat.mod_lt _ (by decide)⟩
/-- Column block `d` lies inside `w`. -/
theorem wcol_inb (d : Dev nD) : ∀ a, (![0, 256 * d.val] : Fin 2 → ℕ) a + S8192x256.size a ≤ S8192x4096.size a := by
  revert d; decide
/-- Slot `k mod 2` lies inside the tile. -/
theorem slot_inb (k : ℕ) : ∀ a, (![k % 2, 0, 0] : Fin 3 → ℕ) a + S1x8192x256.size a ≤ S2x8192x256.size a := by
  have h : ∀ k : Fin 2, ∀ a, (![k.val, 0, 0] : Fin 3 → ℕ) a + S1x8192x256.size a ≤ S2x8192x256.size a := by decide
  exact h ⟨k % 2, Nat.mod_lt _ (by decide)⟩

/-- The 512 rows of the result that device `s` fills in. -/
abbrev rowR (s : Dev nD) : Rect S8192x256 := Rect.unit (s := S8192x256) ![512 * s.val, 0] S512x256.size (row_inb s)
/-- The 256 columns of the staging array for offset `t`. -/
abbrev ycolR (t : ℕ) : Rect S512x4096 := Rect.unit (s := S512x4096) ![0, 256 * (t % 16)] S512x256.size (ycol_inb t)
/-- The 256 columns of `w` for device `d`. -/
abbrev wcolR (d : Dev nD) : Rect S8192x4096 := Rect.unit (s := S8192x4096) ![0, 256 * d.val] S8192x256.size (wcol_inb d)
/-- The part of the tile that is slot `k mod 2`. -/
abbrev slotR (k : ℕ) : Rect S2x8192x256 := Rect.unit (s := S2x8192x256) ![k % 2, 0, 0] S1x8192x256.size (slot_inb k)

/-- Row block `s` of the result: where device `s` writes. -/
abbrev rowM (s : Dev nD) : Memref sig .tc .vmem S512x256 .f32 := oM.slice (rowR s) (fun _ => rfl)
/-- Column block `t` of the staging array: what goes to the device `t` places on. -/
abbrev ycolM (t : ℕ) : Memref sig .tc .vmem S512x256 .f32 := yM.slice (ycolR t) (fun _ => rfl)
/-- Column block `d` of `w`: what device `d`'s result is made with. -/
abbrev wcolM (d : Dev nD) : Memref sig .tc .hbm S8192x256 .f32 := wM.slice (wcolR d) (fun _ => rfl)
/-- Slot `k mod 2` of the tile of `w`. -/
abbrev slotM (k : ℕ) : Memref sig .tc .vmem S8192x256 .f32 :=
  (tM.slice (slotR k) (fun _ => rfl)).squeeze S8192x256 squeezes_S1x8192x256_S8192x256

/-! ## The elements under a block -/

/-- An element of the result is in row block `s` when its row divided by 512 is `s`. -/
theorem mem_row (s : Dev nD) (i : S8192x256.Idx) : i ∈ (rowM s).view.set ↔ (i 0).val / 512 = s.val := by
  have hm : (rowM s).view.set = (rowR s).set := View.set_slice_whole cc0_stg1_0 (rowR s)
  rw [hm, Rect.mem_set_unit]
  have h1 : (i 1).val < 256 := (i 1).isLt
  constructor
  · intro h
    have h0 : 512 * s.val ≤ (i 0).val ∧ (i 0).val < 512 * s.val + 512 := h 0
    omega
  · intro h a
    match a with
    | ⟨0, _⟩ => show 512 * s.val ≤ (i 0).val ∧ (i 0).val < 512 * s.val + 512; omega
    | ⟨1, _⟩ => show 0 ≤ (i 1).val ∧ (i 1).val < 0 + 256; omega

/-- An element of the staging array is in column block `t` when its column divided by 256 is `t mod 16`. -/
theorem mem_ycol (t : ℕ) (i : S512x4096.Idx) : i ∈ (ycolM t).view.set ↔ (i 1).val / 256 = t % 16 := by
  have hm : (ycolM t).view.set = (ycolR t).set := View.set_slice_whole cc0_scratch1 (ycolR t)
  rw [hm, Rect.mem_set_unit]
  have h0 : (i 0).val < 512 := (i 0).isLt
  constructor
  · intro h
    have h1 : 256 * (t % 16) ≤ (i 1).val ∧ (i 1).val < 256 * (t % 16) + 256 := h 1
    omega
  · intro h a
    match a with
    | ⟨0, _⟩ => show 0 ≤ (i 0).val ∧ (i 0).val < 0 + 512; omega
    | ⟨1, _⟩ => show 256 * (t % 16) ≤ (i 1).val ∧ (i 1).val < 256 * (t % 16) + 256; omega

/-- An element of `w` is in column block `d` when its column divided by 256 is `d`. -/
theorem mem_wcol (d : Dev nD) (i : S8192x4096.Idx) : i ∈ (wcolM d).view.set ↔ (i 1).val / 256 = d.val := by
  have hm : (wcolM d).view.set = (wcolR d).set := View.set_slice_whole main_arg1 (wcolR d)
  rw [hm, Rect.mem_set_unit]
  have h0 : (i 0).val < 8192 := (i 0).isLt
  constructor
  · intro h
    have h1 : 256 * d.val ≤ (i 1).val ∧ (i 1).val < 256 * d.val + 256 := h 1
    omega
  · intro h a
    match a with
    | ⟨0, _⟩ => show 0 ≤ (i 0).val ∧ (i 0).val < 0 + 8192; omega
    | ⟨1, _⟩ => show 256 * d.val ≤ (i 1).val ∧ (i 1).val < 256 * d.val + 256; omega

/-- An element of the tile is in slot `k mod 2` when its first index is that. -/
theorem mem_slot (k : ℕ) (i : S2x8192x256.Idx) : i ∈ (slotM k).view.set ↔ (i 0).val = k % 2 := by
  have hm : (slotM k).view.set = (slotR k).set :=
    (View.set_reshape _ _).trans (View.set_slice_whole cc0_scratch0 (slotR k))
  rw [hm, Rect.mem_set_unit]
  have h1 : (i 1).val < 8192 := (i 1).isLt
  have h2 : (i 2).val < 256 := (i 2).isLt
  constructor
  · intro h
    have h0 : k % 2 ≤ (i 0).val ∧ (i 0).val < k % 2 + 1 := h 0
    omega
  · intro h a
    match a with
    | ⟨0, _⟩ => show k % 2 ≤ (i 0).val ∧ (i 0).val < k % 2 + 1; omega
    | ⟨1, _⟩ => show 0 ≤ (i 1).val ∧ (i 1).val < 0 + 8192; omega
    | ⟨2, _⟩ => show 0 ≤ (i 2).val ∧ (i 2).val < 0 + 256; omega

/-! ## Each buffer is the disjoint union of its blocks -/

/-- Different row blocks of the result share no element. -/
theorem row_disjoint (s s' : Dev nD) (h : s ≠ s') : Disjoint (α := Finset S8192x256.Idx) (rowM s).view.set (rowM s').view.set :=
  Finset.disjoint_left.mpr fun i hi hi' => h (Fin.ext (((mem_row s i).mp hi).symm.trans ((mem_row s' i).mp hi')))

/-- The sixteen row blocks make up the result. -/
theorem row_cover : Finset.biUnion (β := S8192x256.Idx) Finset.univ (fun s : Dev nD => (rowM s).view.set) = Finset.univ := by
  ext i
  have h : (i 0).val < 8192 := (i 0).isLt
  simp only [Finset.mem_biUnion, Finset.mem_univ, true_and, iff_true]
  exact ⟨⟨(i 0).val / 512, by show _ < 16; omega⟩, (mem_row _ i).mpr rfl⟩

/-- Different column blocks of the staging array share no element. -/
theorem ycol_disjoint (t t' : Fin 16) (h : t ≠ t') : Disjoint (α := Finset S512x4096.Idx) (ycolM t.val).view.set (ycolM t'.val).view.set :=
  Finset.disjoint_left.mpr fun i hi hi' => h (Fin.ext (by
    have h1 := (mem_ycol t.val i).mp hi
    have h2 := (mem_ycol t'.val i).mp hi'
    have := t.isLt; have := t'.isLt; omega))

/-- The sixteen column blocks make up the staging array. -/
theorem ycol_cover : Finset.biUnion (β := S512x4096.Idx) Finset.univ (fun t : Fin 16 => (ycolM t.val).view.set) = Finset.univ := by
  ext i
  have h : (i 1).val < 4096 := (i 1).isLt
  simp only [Finset.mem_biUnion, Finset.mem_univ, true_and, iff_true]
  exact ⟨⟨(i 1).val / 256, by omega⟩, (mem_ycol ((i 1).val / 256) i).mpr (by omega)⟩

/-- Different column blocks of `w` share no element. -/
theorem wcol_disjoint (d d' : Dev nD) (h : d ≠ d') : Disjoint (α := Finset S8192x4096.Idx) (wcolM d).view.set (wcolM d').view.set :=
  Finset.disjoint_left.mpr fun i hi hi' => h (Fin.ext (((mem_wcol d i).mp hi).symm.trans ((mem_wcol d' i).mp hi')))

/-- The sixteen column blocks make up `w`. -/
theorem wcol_cover : Finset.biUnion (β := S8192x4096.Idx) Finset.univ (fun d : Dev nD => (wcolM d).view.set) = Finset.univ := by
  ext i
  have h : (i 1).val < 4096 := (i 1).isLt
  simp only [Finset.mem_biUnion, Finset.mem_univ, true_and, iff_true]
  exact ⟨⟨(i 1).val / 256, by show _ < 16; omega⟩, (mem_wcol _ i).mpr rfl⟩

/-- The two slots share no element. -/
theorem slot_disjoint (k k' : Fin 2) (h : k ≠ k') : Disjoint (α := Finset S2x8192x256.Idx) (slotM k.val).view.set (slotM k'.val).view.set :=
  Finset.disjoint_left.mpr fun i hi hi' => h (Fin.ext (by
    have h1 := (mem_slot k.val i).mp hi
    have h2 := (mem_slot k'.val i).mp hi'
    have := k.isLt; have := k'.isLt; omega))

/-- The two slots make up the tile. -/
theorem slot_cover : Finset.biUnion (β := S2x8192x256.Idx) Finset.univ (fun k : Fin 2 => (slotM k.val).view.set) = Finset.univ := by
  ext i
  have h : (i 0).val < 2 := (i 0).isLt
  simp only [Finset.mem_biUnion, Finset.mem_univ, true_and, iff_true]
  exact ⟨⟨(i 0).val, h⟩, (mem_slot (i 0).val i).mpr (by omega)⟩

/-! ## The kernel's own addresses are these blocks -/

/-- The same offset names the same row block. -/
theorem row_slice {off : Fin 2 → ℕ} (s : Dev nD) (h : off = ![512 * s.val, 0])
    (inb : ∀ a, off a + S512x256.size a ≤ S8192x256.size a) :
    oM.slice (Rect.unit (s := S8192x256) off S512x256.size inb) (fun _ => rfl) = rowM s := by
  subst h; rfl

/-- The block the kernel copies from at offset `t` is column block `c + t` of `w`. -/
theorem wcol_slice {off : Fin 2 → ℕ} (c : Dev nD) (t : ℕ) (h : off = ![0, 256 * ((c.val + t) % 16)])
    (inb : ∀ a, off a + S8192x256.size a ≤ S8192x4096.size a) :
    wM.slice (Rect.unit (s := S8192x4096) off S8192x256.size inb) (fun _ => rfl) = wcolM (peer c t) := by
  subst h; rfl

end Cert.Scatter

end
-- ==== Proof.Contents.lean ====
/-
What the buffers hold: the block one device computes for another, and the whole result of a device as the sixteen
blocks that reach it.
-/
module

public import proofs.«01_k».proof.Proof.Blocks

@[expose] public section

noncomputable section

namespace Cert.Scatter

open Cert.KernelIdeal Cert.KernelIdeal.Gen
open Idealize.ShloMosaic
open Idealize.ShloMosaic.TcCoe

variable {F : FTy → Type} [FloatOps F]
variable (m : (ℓ : Loc nD τ sig) → Buf (Elt F) ℓ)

/-- One block of the answer: the rows `x` times the columns `w`, negative entries replaced by zero. -/
def tile (x : FVec F S512x8192 .f32) (w : FVec F S8192x256 .f32) : FVec F S512x256 .f32 :=
  maximumf (matmul dot_S512x8192_S8192x256_S512x256_1_0_0_1_n_n none x w (constant S512x256 .f32 0x00000000#32))
    (broadcast S512x256 (Scalar.ofBits .f32 0x00000000#32 : F .f32))

/-- Device `c`'s rows of `x`, as its staging buffer holds them. -/
def xAt (c : Dev nD) : (cc0_stg0_0 : Ref sig .tc).ty.Contents (Elt F) :=
  (win0_0.blk (0 : Fin 1)).view.read (Elt F) (m ((c : Thread nD τ).loc main_arg0))

/-- Column block `d` of device `c`'s copy of `w`. -/
def wAt (c d : Dev nD) : FVec F S8192x256 .f32 := (wcolM d).view.read (Elt F) (m ((c : Thread nD τ).loc main_arg1))

/-- The block device `s` computes for device `d`. -/
def sent (s d : Dev nD) : FVec F S512x256 .f32 := tile (xAt m s) (wAt m s d)

/-- The device whose row block an element of the result lies in. -/
def rowOf (i : S8192x256.Idx) : Dev nD :=
  ⟨(i 0).val / 512, by have h : (i 0).val < 8192 := (i 0).isLt; show _ < 16; omega⟩

/-- The element's place inside its row block. -/
def inRow (i : S8192x256.Idx) : S512x256.Idx
  | ⟨0, _⟩ => ⟨(i 0).val % 512, Nat.mod_lt _ (by decide)⟩
  | ⟨1, _⟩ => ⟨(i 1).val, (i 1).isLt⟩

/-- Device `d`'s result: row block `s` is what device `s` computed for it. -/
def outAt (d : Dev nD) : (cc0_stg1_0 : Ref sig .tc).ty.Contents (Elt F) := fun i => sent m (rowOf i) d (inRow i)

/-! ## Reading and writing row blocks -/

/-- Where row block `s` puts its element `x`. -/
theorem row_emb (s : Dev nD) (x : S512x256.Idx) :
    (((rowM s).view.emb x : S8192x256.Idx) 0).val = 512 * s.val + (x 0).val
      ∧ (((rowM s).view.emb x : S8192x256.Idx) 1).val = (x 1).val := by
  constructor
  · show 512 * s.val + 1 * (x 0).val = _; omega
  · show 0 + 1 * (x 1).val = _; omega

/-- Every element of row block `s` comes from device `s`. -/
theorem rowOf_emb (s : Dev nD) (x : S512x256.Idx) : rowOf ((rowM s).view.emb x) = s := by
  apply Fin.ext
  have h := (row_emb s x).1
  have hx : (x 0).val < 512 := (x 0).isLt
  show (((rowM s).view.emb x : S8192x256.Idx) 0).val / 512 = s.val
  omega

/-- The place of an element inside its row block is the one it was put at. -/
theorem inRow_emb (s : Dev nD) (x : S512x256.Idx) : inRow ((rowM s).view.emb x) = x := by
  have h := row_emb s x
  have hx : (x 0).val < 512 := (x 0).isLt
  funext a
  match a with
  | ⟨0, _⟩ => exact Fin.ext (by show (((rowM s).view.emb x : S8192x256.Idx) 0).val % 512 = (x 0).val; omega)
  | ⟨1, _⟩ => exact Fin.ext h.2

/-- What device `s` computed for `d`, put into row block `s` of any contents, is the result there. -/
theorem write_row (s d : Dev nD) (f : (cc0_stg1_0 : Ref sig .tc).ty.Contents (Elt F)) :
    ∀ i ∈ (rowM s).view.set, (rowM s).view.write (Elt F) f (sent m s d) Finset.univ i = outAt m d i := by
  intro i hi
  obtain ⟨x, -, rfl⟩ := Finset.mem_map.mp hi
  rw [View.write_emb_of_mem _ _ (Finset.mem_univ x)]
  unfold outAt
  rw [rowOf_emb, inRow_emb]
  rfl

end Cert.Scatter

end
-- ==== Proof.Schedule.lean ====
/-
The protocol of the kernel's semaphores.

Each device's barrier semaphore is raised once by every other device, which hands over the row block of its own
result that this device will write. Each send semaphore is raised once, by the device's own copy, which gives the
column block of the staging array back. Each receive semaphore is raised once, by a copy that another device
started, and hands over one row block of the result, filled in.
-/
module

public import proofs.«01_k».proof.Proof.Contents

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The ghost state of the semaphores shared between devices. -/
abbrev UB : Type := URounds (GSem nD τ sig) (Dev nD)
/-- The ghost state altogether. -/
abbrev UU : Type := UR sig nD τ × (UB × Counters)

local notation "𝕄" => MT nD τ sig Unit (Elt F) ℕ UU ℕ

/-- The library's own part of the ghost state; -/
abbrev EP : Emb (UR sig nD τ) (MT nD τ sig Unit (Elt F) ℕ UU ℕ) := embL
/-- the part for the semaphores shared between devices; -/
def ER : Emb UB (MT nD τ sig Unit (Elt F) ℕ UU ℕ) := (Emb.inl : Emb UB (UB × Counters)).trans embR
/-- the part for the copies a device makes inside its own memory. -/
def EC : UEmb Counters (MT nD τ sig Unit (Elt F) ℕ UU ℕ) :=
  ((UEmb.inr : UEmb Counters (UB × Counters)).trans (UEmb.inr : UEmb (UB × Counters) UU)).trans uEmb

/-- The part for the shared semaphores lies in the ghost state that may be chosen, -/
instance ER_landsIn : (ER : Emb UB 𝕄).LandsIn (upEmb : UEmb _ 𝕄) := by unfold ER embR; infer_instance
/-- and so does the part for the copies. -/
instance EC_landsIn : (EC : UEmb Counters 𝕄).LandsIn (upEmb : UEmb _ 𝕄) := by unfold EC; infer_instance

variable (m : (ℓ : Loc nD τ sig) → Buf (Elt F) ℓ)

/-! ## The semaphores -/

/-- An offset, taken round the ring. -/
def fx (t : ℕ) : Fin 16 := ⟨t % 16, Nat.mod_lt _ (by decide)⟩

/-- Below sixteen an offset is itself. -/
theorem fx_val {t : ℕ} (h : t < 16) : (fx t).val = t := Nat.mod_eq_of_lt h

/-- The barrier semaphore. -/
abbrev barS : Sem sig := (SemArray.scalar (sig.barrier 0 rfl) : Sems sig S_).sem
/-- The semaphore of the copies of `w` into slot `k mod 2`. -/
def wS (k : ℕ) : DmaSem sig := ⟨2 + k % 2, by show _ < 36; omega⟩
/-- The semaphore that tells that the send at offset `t` has left. -/
def sendS (t : Fin 16) : DmaSem sig := ⟨4 + t.val, by show _ < 36; omega⟩
/-- The semaphore that tells that the block sent at offset `t` has come. -/
def recvS (t : Fin 16) : DmaSem sig := ⟨20 + t.val, by show _ < 36; omega⟩

/-- The barrier of device `c`. -/
abbrev barCell (c : Dev nD) : GSem nD τ sig := ((c : Thread nD τ), .reg barS)
/-- The semaphore of slot `k mod 2` on device `c`. -/
abbrev wCell (c : Dev nD) (k : ℕ) : GSem nD τ sig := ((c : Thread nD τ), .dma (wS k))
/-- The send semaphore of offset `t` on device `c`. -/
abbrev sendCell (c : Dev nD) (t : ℕ) : GSem nD τ sig := ((c : Thread nD τ), .dma (sendS (fx t)))
/-- The receive semaphore of offset `t` on device `c`. -/
abbrev recvCell (c : Dev nD) (t : ℕ) : GSem nD τ sig := ((c : Thread nD τ), .dma (recvS (fx t)))

/-- The shared semaphores of one device: the barrier, sixteen for sending, sixteen for receiving. -/
abbrev CI : Type := Unit ⊕ (Fin 16 ⊕ Fin 16)
/-- The semaphore of each kind and offset. -/
def csem : CI → SemLoc sig
  | .inl _ => .reg barS
  | .inr (.inl t) => .dma (sendS t)
  | .inr (.inr t) => .dma (recvS t)
/-- The shared semaphore of a device, by kind and offset. -/
abbrev kcell (ck : Dev nD × CI) : GSem nD τ sig := ((ck.1 : Thread nD τ), csem ck.2)

/-- The barrier among the shared semaphores, -/
abbrev iBar : CI := .inl ()
/-- the send semaphore of offset `t`, -/
abbrev iSend (t : ℕ) : CI := .inr (.inl (fx t))
/-- and the receive semaphore of offset `t`. -/
abbrev iRecv (t : ℕ) : CI := .inr (.inr (fx t))

/-- What one block's copy adds to a semaphore. -/
abbrev NB : ℕ := (rowM (0 : Dev nD)).view.dmaCredit
/-- It is not nothing. -/
theorem NB_pos : 0 < NB := View.dmaCredit_pos _ (by decide)
/-- What one copy of a column block of `w` adds to a semaphore. -/
abbrev NW : ℕ := (slotM 0).view.dmaCredit
/-- It is not nothing. -/
theorem NW_pos : 0 < NW := View.dmaCredit_pos _ (by decide)

/-! ## The pieces of memory that change hands -/

/-- Row block `s` of device `d`'s result, holding `f`. -/
def rowPts (d s : Dev nD) (f : (cc0_stg1_0 : Ref sig .tc).ty.Contents (Elt F)) : sProp 𝕄 :=
  (rowM s).view.loc (d : Thread nD τ) ↦[(rowM s).view.set]{fullShare} f
/-- Column block `t` of device `c`'s staging array, holding `f`. -/
def ycolPts (c : Dev nD) (t : ℕ) (f : (cc0_scratch1 : Ref sig .tc).ty.Contents (Elt F)) : sProp 𝕄 :=
  (ycolM t).view.loc (c : Thread nD τ) ↦[(ycolM t).view.set]{fullShare} f
/-- Column block `d` of device `c`'s copy of `w`, as launched. -/
def wcolPts (c d : Dev nD) : sProp 𝕄 :=
  (wcolM d).view.loc (c : Thread nD τ) ↦[(wcolM d).view.set]{fullShare} (m ((c : Thread nD τ).loc main_arg1))
/-- Slot `k mod 2` of device `c`'s tile, holding `f`. -/
def slotPts (c : Dev nD) (k : ℕ) (f : (cc0_scratch0 : Ref sig .tc).ty.Contents (Elt F)) : sProp 𝕄 :=
  (slotM k).view.loc (c : Thread nD τ) ↦[(slotM k).view.set]{fullShare} f

omit [FloatOps F] in
/-- A row block may be handed over through a semaphore. -/
instance rowPts_storable (d s : Dev nD) (f) : BI.Storable (upEmb : UEmb _ 𝕄) (rowPts (F := F) d s f) := by unfold rowPts; infer_instance
omit [FloatOps F] in
/-- A column block of the staging array may be handed over through a semaphore. -/
instance ycolPts_storable (c : Dev nD) (t : ℕ) (f) : BI.Storable (upEmb : UEmb _ 𝕄) (ycolPts (F := F) c t f) := by unfold ycolPts; infer_instance

/-! ## The schedule -/

/-- A barrier semaphore is raised in its one round by every other device, by one unit; the send and receive
    semaphores of the offsets `1..15` once each, by one block's worth. -/
def kRd : Rounds.Schedule (GSem nD τ sig) (Dev nD) 𝕄 where
  duties g r :=
    if r = 0 ∧ g.1.2 = .tc then
      match g.2 with
      | .reg s => if s = barS then Finset.univ.erase g.1.1 else ∅
      | .dma q => if (4 < q.val ∧ q.val < 20) ∨ 20 < q.val then {0} else ∅
    else ∅
  unitless _ := False
  amount g _ _ := match g.2 with
    | .reg _ => 1
    | .dma _ => NB
  payload g _ p := match g.2 with
    | .reg _ => iprop(∃ f, rowPts p g.1.1 f)
    | .dma q => if q.val < 20 then iprop(∃ f, ycolPts g.1.1 (q.val - 4) f)
        else rowPts g.1.1 (back g.1.1 (q.val - 20)) (outAt m g.1.1)
  amount_pos g _ _ _ := by
    rcases g with ⟨⟨d, p⟩, s | q⟩
    · exact Nat.one_pos
    · exact NB_pos

/-- Whatever the schedule hands over may be handed over through a semaphore. -/
instance kRd_payload_storable (g : GSem nD τ sig) (r : ℕ) (p : Dev nD) :
    BI.Storable (upEmb : UEmb _ 𝕄) ((kRd (F := F) m).payload g r p) := by
  rcases g with ⟨⟨d, k⟩, s | q⟩
  · show BI.Storable upEmb (iprop(∃ f, rowPts p d f)); infer_instance
  · show BI.Storable upEmb (if q.val < 20 then iprop(∃ f, ycolPts d (q.val - 4) f) else rowPts d (back d (q.val - 20)) (outAt m d))
    split <;> infer_instance

section Sched
variable (c : Dev nD)

/-- The barrier of `c` is raised by every other device. -/
theorem duties_bar : (kRd (F := F) m).duties (barCell c) 0 = Finset.univ.erase c := by
  dsimp only [kRd]; rw [if_pos ⟨rfl, rfl⟩, if_pos rfl]

/-- A send semaphore is raised once, -/
theorem duties_send {t : ℕ} (h0 : 0 < t) (h : t < 16) : (kRd (F := F) m).duties (sendCell c t) 0 = {0} := by
  dsimp only [kRd]; rw [if_pos ⟨rfl, rfl⟩, if_pos (Or.inl ?_)]
  show 4 < 4 + (fx t).val ∧ 4 + (fx t).val < 20
  rw [fx_val h]; omega

/-- and so is a receive semaphore. -/
theorem duties_recv {t : ℕ} (h0 : 0 < t) (h : t < 16) : (kRd (F := F) m).duties (recvCell c t) 0 = {0} := by
  dsimp only [kRd]; rw [if_pos ⟨rfl, rfl⟩, if_pos (Or.inr ?_)]
  show 20 < 20 + (fx t).val
  rw [fx_val h]; omega

/-- The first send semaphore and the first receive semaphore are never raised. -/
theorem duties_send_zero (r : ℕ) : (kRd (F := F) m).duties (sendCell c 0) r = ∅ := by
  dsimp only [kRd]
  split
  · exact if_neg (by show ¬ ((4 < 4 + 0 % 16 ∧ 4 + 0 % 16 < 20) ∨ 20 < 4 + 0 % 16); omega)
  · rfl

/-- The first receive semaphore is never raised. -/
theorem duties_recv_zero (r : ℕ) : (kRd (F := F) m).duties (recvCell c 0) r = ∅ := by
  dsimp only [kRd]
  split
  · exact if_neg (by show ¬ ((4 < 20 + 0 % 16 ∧ 20 + 0 % 16 < 20) ∨ 20 < 20 + 0 % 16); omega)
  · rfl

/-- No semaphore is raised in a later round. -/
theorem duties_later (g : GSem nD τ sig) : ∀ r, 1 ≤ r → (kRd (F := F) m).duties g r = ∅ :=
  fun r hr => if_neg fun h => by omega

/-- A barrier is raised by one unit, -/
theorem amount_bar (p : Dev nD) : (kRd (F := F) m).amount (barCell c) 0 p = 1 := rfl
/-- a send semaphore by one block's worth, -/
theorem amount_send (t : ℕ) (p : Dev nD) : (kRd (F := F) m).amount (sendCell c t) 0 p = NB := rfl
/-- and a receive semaphore by one block's worth. -/
theorem amount_recv (t : ℕ) (p : Dev nD) : (kRd (F := F) m).amount (recvCell c t) 0 p = NB := rfl

/-- The barrier expects fifteen units, -/
theorem expect_bar : (kRd (F := F) m).expect (barCell c) 0 = 15 := by
  unfold Schedule.expect Schedule.amountOf
  rw [duties_bar, Finset.sum_congr rfl fun p _ => amount_bar m c p, Finset.sum_const, Finset.card_erase_of_mem (Finset.mem_univ _)]
  rfl
/-- a send semaphore one block's worth, -/
theorem expect_send {t : ℕ} (h0 : 0 < t) (h : t < 16) : (kRd (F := F) m).expect (sendCell c t) 0 = NB := by
  unfold Schedule.expect Schedule.amountOf; rw [duties_send m c h0 h, Finset.sum_singleton, amount_send]
/-- and a receive semaphore one block's worth. -/
theorem expect_recv {t : ℕ} (h0 : 0 < t) (h : t < 16) : (kRd (F := F) m).expect (recvCell c t) 0 = NB := by
  unfold Schedule.expect Schedule.amountOf; rw [duties_recv m c h0 h, Finset.sum_singleton, amount_recv]

/-- Device `p` gives through the barrier of `c` the row block of its own result that `c` is to fill in. -/
theorem payload_bar (p : Dev nD) : (kRd (F := F) m).payload (barCell c) 0 p = iprop(∃ f, rowPts p c f) := rfl
/-- A send semaphore gives back the column block of the staging array that was sent. -/
theorem payload_send {t : ℕ} (h : t < 16) (p : Dev nD) : (kRd (F := F) m).payload (sendCell c t) 0 p = iprop(∃ f, ycolPts c t f) := by
  dsimp only [kRd]
  rw [if_pos (by show 4 + (fx t).val < 20; rw [fx_val h]; omega)]
  have e : (sendS (fx t)).val - 4 = t := by show 4 + (fx t).val - 4 = t; rw [fx_val h]; omega
  rw [e]
/-- A receive semaphore gives the row block that has come, filled in. -/
theorem payload_recv {t : ℕ} (h : t < 16) (p : Dev nD) :
    (kRd (F := F) m).payload (recvCell c t) 0 p = rowPts c (back c t) (outAt m c) := by
  dsimp only [kRd]
  rw [if_neg (by show ¬ (20 + (fx t).val < 20); omega)]
  have e : (recvS (fx t)).val - 20 = t := by show 20 + (fx t).val - 20 = t; rw [fx_val h]; omega
  rw [e]

/-- The other devices, named by their offsets. -/
theorem others_eq : Finset.univ.erase c = (Finset.Ico 1 16).image (peer c) := by revert c; decide

/-- A barrier's round hands over this device's row block in every other device's result. -/
theorem rest_bar : bigSep ((kRd (F := F) m).duties (barCell c) 0 \ ∅) (fun p => (kRd (F := F) m).payload (barCell c) 0 p)
    = bigSep (Finset.Ico 1 16) (fun t => iprop(∃ f, rowPts (F := F) (peer c t) c f)) := by
  rw [Finset.sdiff_empty, duties_bar, others_eq, bigSep_image_of_injOn]
  · rfl
  · intro t ht t' ht' e
    have h := Finset.mem_Ico.mp (Finset.mem_coe.mp ht)
    have h' := Finset.mem_Ico.mp (Finset.mem_coe.mp ht')
    exact peer_inj h.2 h'.2 e
/-- The round of a send semaphore hands back the column block that was sent. -/
theorem rest_send {t : ℕ} (h0 : 0 < t) (h : t < 16) :
    bigSep ((kRd (F := F) m).duties (sendCell c t) 0 \ ∅) (fun p => (kRd (F := F) m).payload (sendCell c t) 0 p)
      = iprop(∃ f, ycolPts (F := F) c t f) := by
  rw [Finset.sdiff_empty, duties_send m c h0 h, bigSep_singleton, payload_send m c h]
/-- The round of a receive semaphore hands over the row block that has come. -/
theorem rest_recv {t : ℕ} (h0 : 0 < t) (h : t < 16) :
    bigSep ((kRd (F := F) m).duties (recvCell c t) 0 \ ∅) (fun p => (kRd (F := F) m).payload (recvCell c t) 0 p)
      = rowPts c (back c t) (outAt m c) := by
  rw [Finset.sdiff_empty, duties_recv m c h0 h, bigSep_singleton, payload_recv m c h]

end Sched

/-! ## What a device still owes, and the order of the waits -/

/-- Device `c` owes a unit to the barrier of each device at offsets `i..15` and a block to the receive semaphores of
    the devices at offsets `j..15`. -/
def debt (c : Dev nD) (i j : ℕ) : CellTallies nD τ sig Unit :=
  (∑ t ∈ Finset.Ico i 16, tallyAt (barCell (peer c t)) () 1) + ∑ t ∈ Finset.Ico j 16, tallyAt (recvCell (peer c t) t) () NB

/-- A sum over offsets `a..15` is its first term and the rest. -/
theorem sum_first (f : ℕ → CellTallies nD τ sig Unit) {a : ℕ} (h : a < 16) :
    ∑ t ∈ Finset.Ico a 16, f t = f a + ∑ t ∈ Finset.Ico (a + 1) 16, f t := by
  have e : Finset.Ico a 16 = insert a (Finset.Ico (a + 1) 16) := by
    ext t; rw [Finset.mem_insert, Finset.mem_Ico, Finset.mem_Ico]; omega
  rw [e, Finset.sum_insert (by rw [Finset.mem_Ico]; omega)]

/-- Signalling at offset `i` settles the first barrier unit owed; -/
theorem debt_sig (c : Dev nD) {i : ℕ} (j : ℕ) (h : i < 16) : debt c i j = debt c (i + 1) j + tallyAt (barCell (peer c i)) () 1 := by
  unfold debt; rw [sum_first _ h, add_assoc, add_comm]
/-- sending at offset `j` settles the first block owed; -/
theorem debt_send (c : Dev nD) (i : ℕ) {j : ℕ} (h : j < 16) : debt c i j = debt c i (j + 1) + tallyAt (recvCell (peer c j) j) () NB := by
  unfold debt; rw [sum_first _ h, add_comm (tallyAt (recvCell (peer c j) j) () NB), ← add_assoc]
/-- and at the end nothing is owed. -/
theorem debt_zero (c : Dev nD) : debt c 16 16 = 0 := by
  unfold debt; rw [Finset.Ico_self, Finset.sum_empty, Finset.sum_empty, add_zero]

/-- Every semaphore of a device's main thread has a place in the order of waiting. -/
def L (g : GSem nD τ sig) : Finset Unit := if g.1.2 = .tc then {()} else ∅
/-- The barriers come before the receive semaphores; everything else a device waits for is below both. -/
def lv (g : GSem nD τ sig) (_ : Unit) : ℕ := match g.2 with
  | .reg _ => 1
  | .dma q => if 20 ≤ q.val then 2 else 0

/-- Other threads have none; -/
theorem L_of_ne (g : GSem nD τ sig) (h : g.1.2 ≠ .tc) : L g = ∅ := if_neg h
/-- the main thread has one for each. -/
theorem L_tc (c : Dev nD) (sm : SemLoc sig) : L ((c : Thread nD τ), sm) = {()} := if_pos rfl

/-- The receive semaphores are at level two. -/
theorem lv_recv (c : Dev nD) (t : ℕ) (u : Unit) : lv (recvCell c t) u = 2 :=
  if_pos (show 20 ≤ 20 + (fx t).val by omega)

/-- A sum of tallies is positive at a cell only if one of them is there. -/
theorem sum_pos {f : ℕ → GSem nD τ sig} {n a b : ℕ} {g : GSem nD τ sig} {u : Unit}
    (h : 0 < (∑ t ∈ Finset.Ico a b, tallyAt (Ix := Unit) (f t) () n) g u) : ∃ t ∈ Finset.Ico a b, g = f t := by
  by_contra hn
  rw [Finset.sum_apply, Finsupp.finset_sum_apply, Finset.sum_eq_zero] at h
  · exact Nat.lt_irrefl 0 h
  · intro t ht
    rw [tallyAt_apply, if_neg fun e => hn ⟨t, ht, e.1⟩]

/-- What is owed is owed to a barrier or to a receive semaphore. -/
theorem debt_pos {c : Dev nD} {i j : ℕ} {g : GSem nD τ sig} {u : Unit} (h : 0 < debt c i j g u) :
    (∃ t ∈ Finset.Ico i 16, g = barCell (peer c t)) ∨ ∃ t ∈ Finset.Ico j 16, g = recvCell (peer c t) t := by
  unfold debt at h
  rw [Pi.add_apply, Finsupp.add_apply] at h
  rcases Nat.eq_zero_or_pos ((∑ t ∈ Finset.Ico i 16, tallyAt (Ix := Unit) (barCell (peer c t)) () 1) g u) with h0 | h0
  · rw [h0, Nat.zero_add] at h; exact Or.inr (sum_pos h)
  · exact Or.inl (sum_pos h0)

omit [FloatOps F] in
/-- A device may wait on a semaphore that lies below everything it owes. -/
theorem mayWait_debt (c : Dev nD) (sm : SemLoc sig) (n i j : ℕ) (hn : ∀ u, lv ((c : Thread nD τ), sm) u = n)
    (hb : i < 16 → n < 1) (hr : n < 2) : (levAts L lv : sProp 𝕄) ⊢ MayWait (c : Thread nD τ) sm () (debt c i j) :=
  MayOwe.of_cut (L := L) (lev := lv) n (fun p hp => by rw [Finset.mem_singleton.mp hp, L_tc]; exact Finset.mem_singleton_self _)
    (fun g u hg => by
      rcases debt_pos hg with ⟨t, ht, rfl⟩ | ⟨t, ht, rfl⟩ <;> exact Finset.mem_singleton_self _)
    (fun p hp => by rw [Finset.mem_singleton.mp hp]; exact le_of_eq (hn _))
    (fun g u hg => by
      rcases debt_pos hg with ⟨t, ht, rfl⟩ | ⟨t, ht, rfl⟩
      · have h := Finset.mem_Ico.mp ht; exact hb (by omega)
      · rw [lv_recv]; exact hr)

end Cert.Scatter

end
-- ==== Proof.State.lean ====
/-
What a device holds at each point of the kernel.

The kernel is a straight line of signals, copies, loads, stores and waits, in which each kind of operation is done
once for every offset. So a point is given by counters: how many operations of each kind have been done. `St` is what
the device holds at a point; a resource that passes from one stage to the next at each offset is a run of the
offsets between two counters.
-/
module

public import proofs.«01_k».proof.Proof.Schedule
public import Idealize.ShloMosaic.Lib.Transfers

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-- The kernel has no loop that needs a measure. -/
abbrev 𝒱₀ : Variants := Variants.none

/-- Device `c` may run `p` and ends with `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Runs of offsets -/

/-- `Φ` at every offset from `a` up to `b`. -/
def seg (a b : ℕ) (Φ : ℕ → sProp 𝕄) : sProp 𝕄 := bigSep (Finset.Ico a b) Φ

omit [FloatOps F] in
/-- A run is its first piece and the rest, -/
theorem seg_first {a b : ℕ} (h : a < b) (Φ : ℕ → sProp 𝕄) : seg a b Φ = iprop(Φ a ∗ seg (a + 1) b Φ) := by
  have e : Finset.Ico a b = insert a (Finset.Ico (a + 1) b) := by
    ext t; rw [Finset.mem_insert, Finset.mem_Ico, Finset.mem_Ico]; omega
  unfold seg; rw [e, bigSep_insert (by rw [Finset.mem_Ico]; omega)]; rfl

omit [FloatOps F] in
/-- or its last piece and the rest. -/
theorem seg_last {a b : ℕ} (h : a ≤ b) (Φ : ℕ → sProp 𝕄) : seg a (b + 1) Φ = iprop(Φ b ∗ seg a b Φ) := by
  have e : Finset.Ico a (b + 1) = insert b (Finset.Ico a b) := by
    ext t; rw [Finset.mem_insert, Finset.mem_Ico, Finset.mem_Ico]; omega
  unfold seg; rw [e, bigSep_insert (by rw [Finset.mem_Ico]; omega)]; rfl

omit [FloatOps F] in
/-- An empty run is nothing. -/
theorem seg_nil {a b : ℕ} (h : b ≤ a) (Φ : ℕ → sProp 𝕄) : seg a b Φ = iprop(emp) := by
  unfold seg; rw [Finset.Ico_eq_empty (by omega), bigSep_empty]; rfl

/-! ## What every device knows -/

/-- The protocols of all the shared semaphores, under the names `K`, each begun. -/
def recs (K : Dev nD × CI → ℕ) : sProp 𝕄 :=
  iprop((bigSep Finset.univ fun ck : Dev nD × CI => cellInv ER (kRd m) (K ck) (kcell ck))
    ∗ bigSep Finset.univ fun ck : Dev nD × CI => reached ER (kcell ck) 0)
/-- The protocols and the order of waiting: what every device knows throughout. -/
def base (K : Dev nD × CI → ℕ) : sProp 𝕄 := iprop(recs m K ∗ levAts L lv)

/-- The protocols stay known; -/
instance recs_persistent (K : Dev nD × CI → ℕ) : BI.Persistent (recs m K) := by unfold recs; infer_instance
/-- so do they with the order of waiting. -/
instance base_persistent (K : Dev nD × CI → ℕ) : BI.Persistent (base m K) := by unfold base; infer_instance

/-- Every device knows the protocol of each shared semaphore, -/
theorem base_inv (K : Dev nD × CI → ℕ) (c : Dev nD) (k : CI) : base m K ⊢ cellInv ER (kRd m) (K (c, k)) (kcell (c, k)) := by
  have h : (bigSep Finset.univ fun ck : Dev nD × CI => (cellInv ER (kRd m) (K ck) (kcell ck) : sProp 𝕄)) ⊢ cellInv ER (kRd m) (K (c, k)) (kcell (c, k)) := bigSep_elim (Finset.mem_univ (c, k))
  unfold base recs
  iintro ⟨⟨H, -⟩, -⟩
  iapply h $$ H
/-- that it has begun, -/
theorem base_reached (K : Dev nD × CI → ℕ) (c : Dev nD) (k : CI) : base m K ⊢ reached ER (kcell (c, k)) 0 := by
  have h : (bigSep Finset.univ fun ck : Dev nD × CI => (reached ER (kcell ck) 0 : sProp 𝕄)) ⊢ reached ER (kcell (c, k)) 0 := bigSep_elim (Finset.mem_univ (c, k))
  unfold base recs
  iintro ⟨⟨-, H⟩, -⟩
  iapply h $$ H
/-- and that it may wait on a semaphore of its own that stands below all it still owes. -/
theorem base_wait (K : Dev nD × CI → ℕ) (c : Dev nD) (sm : SemLoc sig) (n i j : ℕ) (hn : ∀ u, lv ((c : Thread nD τ), sm) u = n)
    (hb : i < 16 → n < 1) (hr : n < 2) : base m K ⊢ MayWait (c : Thread nD τ) sm () (debt c i j) := by
  unfold base
  iintro ⟨-, H⟩
  iapply (mayWait_debt c sm n i j hn hb hr)
  iexact H

/-! ## The parts of what a device holds -/

/-- What is owed when the next signal is `i` and the next send `s`. -/
def Ow (c : Dev nD) (i s : ℕ) : sProp 𝕄 := iprop(∃ W, owes (c : Thread nD τ) (debt c i s) W)
/-- What the signals from `i` on will hand over. -/
def Sg (c : Dev nD) (i : ℕ) : sProp 𝕄 :=
  seg i 16 fun t => iprop(dutyTok ER (barCell (peer c t)) 0 c ∗ ∃ f, rowPts c (peer c t) f)
/-- The barrier before it is passed, and after, with the row blocks that the sends from `s` on will fill. -/
def Br (c : Dev nD) : Bool → ℕ → sProp 𝕄
  | false, _ => iprop(cred (tallyAt (barCell c) () 15) ∗ atPos ER (barCell c) 0 ∅ 0)
  | true, s => iprop(semVal (barCell c) 0 ∗ seg s 16 fun t => iprop(∃ f, rowPts (peer c t) c f))
omit [FloatOps F] in
/-- Before the barrier: the fifteen units expected, and none received. -/
theorem br_false (c : Dev nD) (s : ℕ) :
    Br (F := F) c false s = iprop(cred (tallyAt (barCell c) () 15) ∗ atPos ER (barCell c) 0 ∅ 0) := rfl
omit [FloatOps F] in
/-- After the barrier: the row blocks lent by the devices that are still to be sent to. -/
theorem br_true (c : Dev nD) (s : ℕ) :
    Br (F := F) c true s = iprop(semVal (barCell c) 0 ∗ seg s 16 fun t => iprop(∃ f, rowPts (peer c t) c f)) := rfl
/-- The rights to the sends from `s` on. -/
def Tk (c : Dev nD) (s : ℕ) : sProp 𝕄 :=
  seg s 16 fun t => iprop(dutyTok ER (sendCell c t) 0 0 ∗ dutyTok ER (recvCell (peer c t) t) 0 0)
/-- The device's rows of `x`. -/
def Xs (c : Dev nD) : sProp 𝕄 := xM.view.loc (c : Thread nD τ) ↦[xM.view.set]{fullShare} xAt m c
/-- The column blocks of `w`, but for the copies in flight, which are those from `a` to `e`. -/
def Wc (c : Dev nD) (a e : ℕ) : sProp 𝕄 :=
  iprop((seg 0 a fun t => wcolPts m c (peer c t)) ∗ seg e 16 fun t => wcolPts m c (peer c t))
/-- The copies of `w` in flight. -/
def Fl (c : Dev nD) (a e : ℕ) : sProp 𝕄 :=
  seg a e fun t => Flight EC (c : Thread nD τ) (.dma (wS t)) () NW
    iprop((∃ f, ⌜(slotM t).view.read (Elt F) f = wAt m c (peer c t)⌝ ∗ slotPts c t f) ∗ wcolPts m c (peer c t))
/-- The tiles of `w` that have come and are not yet used. -/
def Tl (c : Dev nD) (b a : ℕ) : sProp 𝕄 :=
  seg b a fun t => iprop((∃ f, ⌜(slotM t).view.read (Elt F) f = wAt m c (peer c t)⌝ ∗ slotPts c t f) ∗ semVal (wCell c t) 0)
/-- A slot at rest, with its semaphore. -/
def slotFree (c : Dev nD) (k : ℕ) : sProp 𝕄 := iprop((∃ f, slotPts c k f) ∗ semVal (wCell c k) 0)
/-- The slots free for the copies from `e` on, `b` tiles having been used. -/
def Fr (c : Dev nD) (e b : ℕ) : sProp 𝕄 := seg e (b + 2) fun t => slotFree c t
/-- The device's own row block of its result, filled in by the first of the `p` stores. -/
def Own (c : Dev nD) : ℕ → sProp 𝕄
  | 0 => iprop(∃ f, rowPts c c f)
  | _ + 1 => rowPts c c (outAt m c)
/-- Before its store the own row block holds anything; -/
theorem own_zero (c : Dev nD) : Own m c 0 = iprop(∃ f, rowPts c c f) := rfl
/-- after it, the result; -/
theorem own_one (c : Dev nD) : Own m c 1 = rowPts c c (outAt m c) := rfl
/-- and so after all the later ones. -/
theorem own_succ (c : Dev nD) (p : ℕ) : Own m c (p + 1) = rowPts c c (outAt m c) := rfl
/-- The column blocks of the staging array not yet stored to, -/
def Yn (c : Dev nD) (p : ℕ) : sProp 𝕄 := seg (max p 1) 16 fun t => iprop(∃ f, ycolPts c t f)
/-- and those stored to and not yet sent. -/
def Yf (c : Dev nD) (s p : ℕ) : sProp 𝕄 :=
  seg s p fun t => iprop(∃ f, ⌜(ycolM t).view.read (Elt F) f = sent m c (peer c t)⌝ ∗ ycolPts c t f)
/-- The sends started and not yet waited for. -/
def Pd (c : Dev nD) (u s : ℕ) : sProp 𝕄 := seg u s fun t => cred (tallyAt (sendCell c t) () NB)
/-- The send semaphores, those before `u` waited for. -/
def Sp (c : Dev nD) (u : ℕ) : sProp 𝕄 :=
  iprop((seg u 16 fun t => atPos ER (sendCell c t) 0 ∅ 0) ∗ seg 1 u fun t => iprop((∃ f, ycolPts c t f) ∗ semVal (sendCell c t) 0))
/-- The receive semaphores, those before `v` waited for. -/
def Rp (c : Dev nD) (v : ℕ) : sProp 𝕄 :=
  iprop((seg v 16 fun t => iprop(cred (tallyAt (recvCell c t) () NB) ∗ atPos ER (recvCell c t) 0 ∅ 0))
    ∗ seg 1 v fun t => iprop(rowPts c (back c t) (outAt m c) ∗ semVal (recvCell c t) 0))

/-- What device `c` holds when the next signal is `i`, the barrier is passed or not (`g`), the next copy of `w` is `e`,
    the next wait for one is `a`, the next tile to be used is `b`, the next store is `p`, the next send is `s`, the next
    wait for a send is `u` and the next wait for a receive is `v`. -/
def St (K : Dev nD × CI → ℕ) (c : Dev nD) (i : ℕ) (g : Bool) (e a b p s u v : ℕ) : sProp 𝕄 :=
  iprop(base m K ∗ Ow c i s ∗ Sg c i ∗ Br c g s ∗ Tk c s ∗ Xs m c ∗ Wc m c a e ∗ Fl m c a e ∗ Tl m c b a ∗ Fr c e b
    ∗ Own m c p ∗ Yn c p ∗ Yf m c s p ∗ Pd c u s ∗ Sp c u ∗ Rp m c v)

end Cert.Scatter

end
-- ==== Proof.StepsA.lean ====
/-
One step of the kernel for each kind of operation: the barrier and the sends.
-/
module

public import proofs.«01_k».proof.Proof.State

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable {α : Type} {Q : α → sProp (MT nD τ sig Unit (Elt F) ℕ UU ℕ)}

/-- An offset from 1 to 15 leads to another device. -/
theorem peer_ne {i : ℕ} (h : 1 ≤ i ∧ i < 16) : c ≠ peer c i := fun e => by
  have h' : peer c i = peer c 0 := by
    rw [← e]; exact Fin.ext (by rw [peer_val, Nat.add_zero, Nat.mod_eq_of_lt (dev_lt c)])
  have := peer_inj h.2 (by decide) h'
  omega

/-- A barrier signal hands the receiver the right to write one row block of the sender's result. -/
theorem step_signal {i e a b p u v : ℕ} {n : Dev nD} {k : PUnit → Prog (TpuEff nD τ sig (Elt F) Λ₀ .tc) α} (h : 1 ≤ i ∧ i < 16)
    (hn : n = peer c i) (hk : St m K c (i + 1) false e a b p 1 u v ⊢ wpc c (k ⟨⟩) Q) :
    St m K c i false e a b p 1 u v ⊢ wpc c (.op (.semSignal (n : Thread nD τ) barS (1#32).toInt) k) Q := by
  subst hn
  unfold St Ow Sg
  rw [seg_first h.2]
  iintro ⟨#B, ⟨%W, HO⟩, ⟨⟨Ht, Hrow⟩, HSg⟩, R⟩
  ihave #Hinv := (base_inv m K (peer c i) iBar) $$ B
  ihave #Hre := (base_reached m K (peer c i) iBar) $$ B
  iapply (wp_signal 𝒱₀ ER (kRd m) (c : Thread nD τ) none (dst := ((peer c i : Dev nD) : Thread nD τ)) (κ := K (peer c i, iBar)) (d := c)
      (by rw [duties_bar]; exact Finset.mem_erase.mpr ⟨peer_ne c h, Finset.mem_univ _⟩)
      ((amount_bar m (peer c i) c).trans (by decide)) () (debt c (i + 1) 1) (debt_sig c 1 h.2)) $$ [HO Ht Hrow]
  · isplitr; · iexact Hinv
    isplitl [HO]; · iexact HO
    isplitl [Ht]; · iexact Ht
    isplitl [Hrow]; · rw [payload_bar]; iexact Hrow
    · iexact Hre
  iintro HO
  iapply hk
  unfold St Ow Sg
  iframe B HSg R
  iexists _
  iexact HO

/-- Past the barrier every other device has handed over its row block for this one. -/
theorem step_barrier {e a b p u v : ℕ} {k : PUnit → Prog (TpuEff nD τ sig (Elt F) Λ₀ .tc) α}
    (hk : St m K c 16 true e a b p 1 u v ⊢ wpc c (k ⟨⟩) Q) :
    St m K c 16 false e a b p 1 u v ⊢ wpc c (.op (.semWait barS (15#32).toNat) k) Q := by
  unfold St Ow
  rw [br_false]
  iintro ⟨#B, ⟨%W, HO⟩, HSg, ⟨Hcr, Hat⟩, R⟩
  ihave #Hinv := (base_inv m K c iBar) $$ B
  iapply (wp_wait_rest_token 𝒱₀ ER (kRd m) (c : Thread nD τ) none (κ := K (c, iBar))
      (wpE_semWait_eq 𝒱₀ (c : Thread nD τ) none Set.univ) (Set.mem_univ _) () (O := debt c 16 1) (W := W) (R := 0) (m := 0) (T := ∅)
      (by rw [expect_bar]; decide)) $$ [Hcr HO Hat]
  · isplitr; · iexact Hinv
    isplitl [Hcr]; · iexact Hcr
    isplitl [HO]; · iexact HO
    isplitr
    · iapply (base_wait m K c (.reg barS) 1 16 1 (fun _ => rfl) (by decide) (by decide)); iexact B
    iexact Hat
  iintro ⟨HO, Hat, -, Hpay⟩
  ihave Hp := (Entails.of_eq (rest_bar m c)) $$ Hpay
  imod (cell_close ER (kRd m) (Set.mem_univ (K (c, iBar))) (fun h => h) (R := 0 + 1) (duties_later m (barCell c))) $$ [Hat] with Hz
  · isplitr; · iexact Hinv
    iexact Hat
  iapply hk
  unfold St Ow
  rw [br_true]
  unfold seg
  iframe B HSg Hz Hp R
  iexists _
  iexact HO

/-- A send hands the receiver the block in its row block of the result. -/
theorem step_send {e a b p s u v : ℕ} {n : Dev nD} {sem sS : DmaSem sig} {src dst : Memref sig .tc .vmem S512x256 .f32}
    {hsc : dst.view.ref.isScScratch = false} {hsrc : src.view.WordExact} {hdst : dst.view.WordExact}
    {hsem : DmaTarget.Typed .vmem (.dma sem) (.remote (n : Thread nD τ) dst (.dma sS) hsc)}
    {k : PUnit → Prog (TpuEff nD τ sig (Elt F) Λ₀ .tc) α} (hs : 1 ≤ s ∧ s < 16) (hp : s < p) (hu : u ≤ s)
    (esrc : src = ycolM s) (edst : dst = rowM c) (en : n = peer c s) (esem : sem = recvS (fx s)) (esS : sS = sendS (fx s))
    (hk : St m K c 16 true e a b p (s + 1) u v ⊢ wpc c (k ⟨⟩) Q) :
    St m K c 16 true e a b p s u v
      ⊢ wpc c (.op (.enqueueDma src (.remote (n : Thread nD τ) dst (.dma sS) hsc) (.dma sem) hsrc hdst hsem) k) Q := by
  subst esrc edst en esem esS
  unfold St Ow Tk Yf Pd
  rw [br_true, seg_first hs.2, seg_first hs.2, seg_first hp]
  iintro ⟨#B, ⟨%W, HO⟩, HSg, ⟨Hz, ⟨%fd, Hd⟩, Htg⟩, ⟨⟨Ht1, Ht2⟩, HTk⟩, HX, HW, HF, HT, HR, Hown, Hyn, ⟨⟨%fs, %hf, Hsrc⟩, HYf⟩, HPd, R⟩
  ihave #Hi1 := (base_inv m K c (iSend s)) $$ B
  ihave #Hi2 := (base_inv m K (peer c s) (iRecv s)) $$ B
  ihave #Hr1 := (base_reached m K c (iSend s)) $$ B
  ihave #Hr2 := (base_reached m K (peer c s) (iRecv s)) $$ B
  iapply (wp_send_pointsTo 𝒱₀ ER (kRd m) (c : Thread nD τ) none (κ₁ := K (c, iSend s)) (κ₂ := K (peer c s, iRecv s))
      (c' := ((peer c s : Dev nD) : Thread nD τ)) (src := ycolM s) (dst := rowM c) (sS := .dma (sendS (fx s))) (sem := .dma (recvS (fx s)))
      (r₁ := 0) (r₂ := 0) (d₁ := 0) (d₂ := 0) (fs := fs) (fd := fd)
      (by rw [duties_send m c hs.1 hs.2]; exact Finset.mem_singleton_self _)
      (by rw [duties_recv m (peer c s) hs.1 hs.2]; exact Finset.mem_singleton_self _)
      () () NB rfl (amount_send m c s 0) (amount_recv m (peer c s) s 0) (debt c 16 (s + 1)) (debt_send c 16 hs.2)
      (by
        rw [payload_send m c hs.2]
        iintro H; iexists fs; unfold ycolPts; iexact H)
      (by
        rw [payload_recv m (peer c s) hs.2, back_peer, hf]
        exact Entails.of_eq (pointsTo_congr (write_row m c (peer c s) fd))))
    $$ [HO Ht1 Ht2 Hsrc Hd]
  · isplitr; · iexact Hi1
    isplitr; · iexact Hi2
    isplitl [Hsrc]; · unfold ycolPts; iexact Hsrc
    isplitl [Hd]; · unfold rowPts; iexact Hd
    isplitl [HO]; · iexact HO
    isplitl [Ht1]; · iexact Ht1
    isplitr; · iexact Hr1
    isplitl [Ht2]; · iexact Ht2
    iexact Hr2
  iintro ⟨Hcr, HO⟩
  iapply hk
  unfold St Ow Tk Yf Pd
  rw [br_true, seg_last hu]
  iframe B HSg Hz Htg HTk HX HW HF HT HR Hown Hyn HYf Hcr HPd R
  iexists _
  iexact HO

/-- A wait for a send gives the block sent back. -/
theorem step_wait_send {e a b p s u v : ℕ} {sem : DmaSem sig} {sp sp' : Space} {shp shp' : Shape} {et et' : EltTy}
    {srcw : Memref sig .tc sp' shp' et'} {dstw : Memref sig .tc sp shp et}
    {hsrc : srcw.view.WordExact} {hdst : dstw.view.WordExact}
    {k : PUnit → Prog (TpuEff nD τ sig (Elt F) Λ₀ .tc) α} (hs : 1 ≤ u ∧ u < 16) (hp : u < s)
    (esem : sem = sendS (fx u)) (hN : dstw.view.dmaCredit = NB)
    (hk : St m K c 16 true e a b p s (u + 1) v ⊢ wpc c (k ⟨⟩) Q) :
    St m K c 16 true e a b p s u v ⊢ wpc c (.op (.waitDma2 sem srcw dstw hsrc hdst) k) Q := by
  subst esem
  unfold St Ow Pd Sp
  rw [seg_first hp, seg_first hs.2, ← hN]
  iintro ⟨#B, ⟨%W, HO⟩, HSg, Hbr, HTk, HX, HW, HF, HT, HR, Hown, Hyn, HYf, ⟨Hcr, HPd⟩, ⟨⟨Hat, Hats⟩, Hback⟩, R⟩
  ihave #Hinv := (base_inv m K c (iSend u)) $$ B
  iapply (wp_wait_rest_token 𝒱₀ ER (kRd m) (c : Thread nD τ) none (κ := K (c, iSend u)) (sm := .dma (sendS (fx u)))
      (wpE_waitDma2_eq 𝒱₀ (c : Thread nD τ) none Set.univ) (Set.mem_univ _) () (O := debt c 16 s) (W := W) (R := 0) (m := 0) (T := ∅)
      (by rw [Nat.zero_add, expect_send m c hs.1 hs.2, hN])) $$ [Hcr HO Hat]
  · isplitr; · iexact Hinv
    isplitl [Hcr]; · iexact Hcr
    isplitl [HO]; · iexact HO
    isplitr
    · iapply (base_wait m K c (.dma (sendS (fx u))) 0 16 s (fun _ => if_neg (by
        show ¬ 20 ≤ 4 + (fx u).val; rw [fx_val hs.2]; omega)) (by decide) (by decide)); iexact B
    iexact Hat
  iintro ⟨HO, Hat, -, Hpay⟩
  ihave Hp := (Entails.of_eq (rest_send m c hs.1 hs.2)) $$ Hpay
  imod (cell_close ER (kRd m) (Set.mem_univ (K (c, iSend u))) (fun h => h) (R := 0 + 1) (duties_later m (sendCell c u))) $$ [Hat] with Hz
  · isplitr; · iexact Hinv
    iexact Hat
  iapply hk
  unfold St Ow Pd Sp
  rw [seg_last hs.1, hN]
  iframe B HSg Hbr HTk HX HW HF HT HR Hown Hyn HYf HPd Hats Hback Hp Hz R
  iexists _
  iexact HO

/-- A wait for a receive gives the row block that has come. -/
theorem step_wait_recv {e a b p u v : ℕ} {sem : DmaSem sig} {sp sp' : Space} {shp shp' : Shape} {et et' : EltTy}
    {srcw : Memref sig .tc sp' shp' et'} {dstw : Memref sig .tc sp shp et}
    {hsrc : srcw.view.WordExact} {hdst : dstw.view.WordExact}
    {k : PUnit → Prog (TpuEff nD τ sig (Elt F) Λ₀ .tc) α} (hs : 1 ≤ v ∧ v < 16)
    (esem : sem = recvS (fx v)) (hN : dstw.view.dmaCredit = NB)
    (hk : St m K c 16 true e a b p 16 u (v + 1) ⊢ wpc c (k ⟨⟩) Q) :
    St m K c 16 true e a b p 16 u v ⊢ wpc c (.op (.waitDma2 sem srcw dstw hsrc hdst) k) Q := by
  subst esem
  unfold St Ow Rp
  rw [seg_first hs.2, ← hN]
  iintro ⟨#B, ⟨%W, HO⟩, HSg, Hbr, HTk, HX, HW, HF, HT, HR, Hown, Hyn, HYf, HPd, HSp, ⟨⟨Hcr, Hat⟩, Hats⟩, Hback⟩
  ihave #Hinv := (base_inv m K c (iRecv v)) $$ B
  iapply (wp_wait_rest_token 𝒱₀ ER (kRd m) (c : Thread nD τ) none (κ := K (c, iRecv v)) (sm := .dma (recvS (fx v)))
      (wpE_waitDma2_eq 𝒱₀ (c : Thread nD τ) none Set.univ) (Set.mem_univ _) () (O := debt c 16 16) (W := W) (R := 0) (m := 0) (T := ∅)
      (by rw [Nat.zero_add, expect_recv m c hs.1 hs.2, hN])) $$ [Hcr HO Hat]
  · isplitr; · iexact Hinv
    isplitl [Hcr]; · iexact Hcr
    isplitl [HO]; · iexact HO
    isplitr
    · rw [debt_zero, MayWait_zero]; iempintro
    iexact Hat
  iintro ⟨HO, Hat, -, Hpay⟩
  ihave Hp := (Entails.of_eq (rest_recv m c hs.1 hs.2)) $$ Hpay
  imod (cell_close ER (kRd m) (Set.mem_univ (K (c, iRecv v))) (fun h => h) (R := 0 + 1) (duties_later m (recvCell c v))) $$ [Hat] with Hz
  · isplitr; · iexact Hinv
    iexact Hat
  iapply hk
  unfold St Ow Rp
  rw [seg_last hs.1, hN]
  iframe B HSg Hbr HTk HX HW HF HT HR Hown Hyn HYf HPd HSp Hats Hback Hp Hz
  iexists _
  iexact HO

end Cert.Scatter

end
-- ==== Proof.StepsB.lean ====
/-
One step of the kernel for each kind of operation: the copies of `w` and the products.
-/
module

public import proofs.«01_k».proof.Proof.State
public import Idealize.ShloMosaic.Lib.Pipeline.Value

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable {α : Type} {Q : α → sProp (MT nD τ sig Unit (Elt F) ℕ UU ℕ)}

/-- The slot with number `j` lies inside the tile. -/
theorem slot_inb' (j : Fin 2) : ∀ a, (![j.val, 0, 0] : Fin 3 → ℕ) a + S1x8192x256.size a ≤ S2x8192x256.size a := by revert j; decide
/-- The slot with number `j`, at rest. -/
def slotRest (j : Fin 2) : sProp 𝕄 :=
  iprop((∃ f, ((tM.slice (Rect.unit (s := S2x8192x256) ![j.val, 0, 0] S1x8192x256.size (slot_inb' j)) (fun _ => rfl)).squeeze S8192x256
      squeezes_S1x8192x256_S8192x256).view.loc (c : Thread nD τ)
        ↦[((tM.slice (Rect.unit (s := S2x8192x256) ![j.val, 0, 0] S1x8192x256.size (slot_inb' j)) (fun _ => rfl)).squeeze S8192x256
      squeezes_S1x8192x256_S8192x256).view.set]{fullShare} f) ∗ semVal ((c : Thread nD τ), .dma (⟨2 + j.val, by show _ < 36; omega⟩ : DmaSem sig)) 0)
omit [FloatOps F] in
/-- A slot is used by every second tile. -/
theorem slotFree_two (k : ℕ) : slotFree (F := F) c (k + 2) = slotFree c k := by
  have h : ∀ k, slotFree (F := F) c k = slotRest c ⟨k % 2, Nat.mod_lt _ (by decide)⟩ := fun _ => rfl
  rw [h, h]
  simp only [Nat.add_mod_right]

/-- The tile used, its slot is free. -/
theorem use_tile {e a b : ℕ} (hb : b < a) (he : e ≤ b + 2) : iprop(Tl m c b a ∗ Fr c e b) ⊢ iprop(Tl m c (b + 1) a ∗ Fr c e (b + 1)) := by
  unfold Tl Fr
  rw [seg_first hb, show b + 1 + 2 = b + 2 + 1 from rfl, seg_last he, slotFree_two]
  unfold slotFree
  iintro ⟨⟨⟨⟨%g, -, Hs⟩, Hz⟩, HT⟩, HR⟩
  iframe HT HR Hz
  iexists g
  iexact Hs

/-- A copy of a column block of `w` into a free slot starts. -/
theorem step_fetch {e a b p s u v : ℕ} {g : Bool} {sem : DmaSem sig} {src : Memref sig .tc .hbm S8192x256 .f32}
    {dst : Memref sig .tc .vmem S8192x256 .f32} {hsrc : src.view.WordExact} {hdst : dst.view.WordExact}
    {hsem : (DmaTarget.here (nD := nD) (τ := τ) (p := Proc.tc) dst).Typed .hbm (.dma sem)}
    {k : PUnit → Prog (TpuEff nD τ sig (Elt F) Λ₀ .tc) α} (he : e < 16) (ha : a ≤ e) (hb : e < b + 2)
    (esrc : src = wcolM (peer c e)) (edst : dst = slotM e) (esem : sem = wS e)
    (hk : St m K c 16 g (e + 1) a b p s u v ⊢ wpc c (k ⟨⟩) Q) :
    St m K c 16 g e a b p s u v ⊢ wpc c (.op (.enqueueDma src (.here dst) (.dma sem) hsrc hdst hsem) k) Q := by
  subst esrc edst esem
  unfold St Wc Fl Fr
  rw [seg_first he, seg_first hb]
  unfold slotFree
  iintro ⟨#B, HO, HSg, Hbr, HTk, HX, ⟨HW1, Hw, HW2⟩, HF, HT, ⟨⟨⟨%f, Hs⟩, Hz⟩, HR⟩, R⟩
  iapply (Transfers.wp_dmaLocal EC 𝒱₀ (c : Thread nD τ) none (src := wcolM (peer c e)) (dst := slotM e) () NW rfl NW_pos subset_rfl
      (fs := m ((c : Thread nD τ).loc main_arg1)) (fd := f) (q := fullShare)) $$ [Hw Hs Hz]
  · isplitl [Hw]; · unfold wcolPts; iexact Hw
    isplitl [Hs]; · unfold slotPts; iexact Hs
    iexact Hz
  iintro HFl
  ihave HFl' := (Transfers.Flight_mono EC (c : Thread nD τ) (D' := iprop((∃ f, ⌜(slotM e).view.read (Elt F) f = wAt m c (peer c e)⌝ ∗ slotPts c e f)
      ∗ wcolPts m c (peer c e))) (by
    iintro ⟨Hd, Hw⟩
    isplitl [Hd]
    · iexists _
      isplitr
      rotate_left
      · unfold slotPts; iexact Hd
      · ipureintro; exact View.read_write_univ _ _
    · unfold wcolPts; iexact Hw)) $$ HFl
  iapply hk
  unfold St Wc Fl Fr
  rw [seg_last ha]
  unfold slotFree
  iframe B HO HSg Hbr HTk HX HW1 HW2 HFl' HF HT HR R

/-- The wait for a copy of `w` gives the tile. -/
theorem step_wait_fetch {e a b p s u v : ℕ} {sem : DmaSem sig} {sp sp' : Space} {shp shp' : Shape} {et et' : EltTy}
    {srcw : Memref sig .tc sp' shp' et'} {dstw : Memref sig .tc sp shp et}
    {hsrc : srcw.view.WordExact} {hdst : dstw.view.WordExact}
    {k : PUnit → Prog (TpuEff nD τ sig (Elt F) Λ₀ .tc) α} (ha : a < e) (hb : b ≤ a)
    (esem : sem = wS a) (hN : dstw.view.dmaCredit = NW)
    (hk : St m K c 16 true e (a + 1) b p s u v ⊢ wpc c (k ⟨⟩) Q) :
    St m K c 16 true e a b p s u v ⊢ wpc c (.op (.waitDma2 sem srcw dstw hsrc hdst) k) Q := by
  subst esem
  unfold St Ow Wc Fl Tl
  rw [seg_first ha]
  iintro ⟨#B, ⟨%W, HO⟩, HSg, Hbr, HTk, HX, ⟨HW1, HW2⟩, ⟨HFl, HF⟩, HT, R⟩
  iapply (Transfers.wp_waitLocalO EC 𝒱₀ (c : Thread nD τ) none () hN (O := debt c 16 s) (W := W)) $$ [HFl HO]
  · isplitl [HFl]; · iexact HFl
    isplitl [HO]; · iexact HO
    iapply (base_wait m K c (.dma (wS a)) 0 16 s (fun _ => if_neg (by show ¬ 20 ≤ 2 + a % 2; omega)) (by decide) (by decide))
    iexact B
  iintro ⟨⟨Hd, Hw⟩, Hz, HO⟩
  iapply hk
  unfold St Ow Wc Fl Tl
  rw [seg_last (Nat.zero_le a), seg_last hb]
  iframe B HSg Hbr HTk HX Hw HW1 HW2 HF HT Hd Hz R
  iexists _
  iexact HO

/-- The load of `x`. -/
theorem step_load_x {e a b p s u v : ℕ} {i : ℕ} {g : Bool} {off : Fin 2 → ℕ} {inb : ∀ d, off d + S512x8192.size d ≤ S512x8192.size d}
    {hl : xM.view.LoadsAt (Rect.unit (s := S512x8192) off S512x8192.size inb).toLoadRect}
    {k : Vec F S512x8192 .f32 → Prog (TpuEff nD τ sig (Elt F) Λ₀ .tc) α}
    (hoff : off = fun _ => 0)
    (hk : ∀ x, x = xAt m c → St m K c i g e a b p s u v ⊢ wpc c (k x) Q) :
    St m K c i g e a b p s u v ⊢ wpc c (.op (.load xM (Rect.unit (s := S512x8192) off S512x8192.size inb).toLoadRect hl) k) Q := by
  unfold St Xs
  iintro ⟨#B, HO, HSg, Hbr, HTk, HX, R⟩
  iapply (wp_load 𝒱₀ (c : Thread nD τ) none Set.univ (m := xM) (View.setOn_subset_set _ _)) $$ HX
  iintro HX
  iapply (hk _ (Memref.readAt_unit_zero (Elt F) cc0_stg0_0 hoff inb (xAt m c)))
  unfold St Xs
  iframe B HO HSg Hbr HTk HX R

/-- The load of the tile. -/
theorem step_load_w {e a b p s u v : ℕ} {i : ℕ} {g : Bool}
    {hl : tM.view.LoadsAt (slotR b).toLoadRect}
    {k : Vec F S1x8192x256 .f32 → Prog (TpuEff nD τ sig (Elt F) Λ₀ .tc) α} (hb : b < a)
    (hk : ∀ w, (∀ h, shapeCast S8192x256 w h = wAt m c (peer c b)) → St m K c i g e a b p s u v ⊢ wpc c (k w) Q) :
    St m K c i g e a b p s u v ⊢ wpc c (.op (.load tM (slotR b).toLoadRect hl) k) Q := by
  unfold St Tl
  rw [seg_first hb]
  iintro ⟨#B, HO, HSg, Hbr, HTk, HX, HW, HF, ⟨⟨⟨%f, %hf, Hs⟩, Hz⟩, HT⟩, R⟩
  iapply (wp_load_rect 𝒱₀ (c : Thread nD τ) none Set.univ (m := tM) (r := slotR b) (q := fullShare) (f := f)
      (S := (slotM b).view.set) (View.set_reshape _ _).symm.subset) $$ [Hs]
  · unfold slotPts; iexact Hs
  iintro Hs
  have e1 : ((tM.access (slotR b)).loc (c : Thread nD τ) ↦[(slotM b).view.set]{fullShare} f) = slotPts c b f := rfl
  ihave Hs := (Entails.of_eq e1) $$ Hs
  iapply (hk ((tM.access (slotR b)).read (Elt F) f) (fun h => hf))
  unfold St Tl
  rw [seg_first hb]
  iframe B HO HSg Hbr HTk HX HW HF HT Hz R
  iexists f
  iframe Hs
  ipureintro
  exact hf

/-- What the loads and the product give. -/
theorem prod_val {x : Vec F S512x8192 .f32} {w : Vec F S1x8192x256 .f32} {d : Dev nD} (hx : x = xAt m c)
    (hw : ∀ h, shapeCast S8192x256 w h = wAt m c d) :
    maximumf (matmul dot_S512x8192_S8192x256_S512x256_1_0_0_1_n_n none
      (shapeCast S512x8192 x shapeCasts_S512x8192_S512x8192 : FVec F S512x8192 .f32)
      (shapeCast S8192x256 w shapeCasts_S1x8192x256_S8192x256 : FVec F S8192x256 .f32) (constant S512x256 .f32 0x00000000#32))
      (broadcast S512x256 (Scalar.ofBits .f32 0x00000000#32 : F .f32)) = sent m c d := by
  rw [hw, hx, shapeCast_self]
  rfl

/-- The same when the product is reshaped to its own shape before it is stored. -/
theorem prod_val_cast {x : Vec F S512x8192 .f32} {w : Vec F S1x8192x256 .f32} {d : Dev nD} (hx : x = xAt m c)
    (hw : ∀ h, shapeCast S8192x256 w h = wAt m c d) :
    shapeCast S512x256 (maximumf (matmul dot_S512x8192_S8192x256_S512x256_1_0_0_1_n_n none
      (shapeCast S512x8192 x shapeCasts_S512x8192_S512x8192 : FVec F S512x8192 .f32)
      (shapeCast S8192x256 w shapeCasts_S1x8192x256_S8192x256 : FVec F S8192x256 .f32) (constant S512x256 .f32 0x00000000#32))
      (broadcast S512x256 (Scalar.ofBits .f32 0x00000000#32 : F .f32)) : FVec F S512x256 .f32) shapeCasts_S512x256_S512x256
      = sent m c d := by
  rw [prod_val m c hx hw, shapeCast_self]

/-- The load of the own row block before it is stored to: its value is not used. -/
theorem step_load_own {e a b s u v : ℕ} {i : ℕ} {g : Bool} {off : Fin 2 → ℕ} {inb : ∀ d, off d + S512x256.size d ≤ S8192x256.size d}
    {hl : oM.view.LoadsAt (Rect.unit (s := S8192x256) off S512x256.size inb).toLoadRect}
    {k : Vec F S512x256 .f32 → Prog (TpuEff nD τ sig (Elt F) Λ₀ .tc) α} (hoff : off = ![512 * c.val, 0])
    (hk : ∀ y, St m K c i g e a b 0 s u v ⊢ wpc c (k y) Q) :
    St m K c i g e a b 0 s u v ⊢ wpc c (.op (.load oM (Rect.unit (s := S8192x256) off S512x256.size inb).toLoadRect hl) k) Q := by
  subst hoff
  unfold St
  rw [own_zero]
  iintro ⟨#B, HO, HSg, Hbr, HTk, HX, HW, HF, HT, HR, ⟨%f, Hown⟩, R⟩
  iapply (wp_load_rect 𝒱₀ (c : Thread nD τ) none Set.univ (m := oM) (r := rowR c) (q := fullShare) (f := f) subset_rfl) $$ [Hown]
  · unfold rowPts; iexact Hown
  iintro Hown
  have e1 : ((oM.access (rowR c)).loc (c : Thread nD τ) ↦[(oM.access (rowR c)).set]{fullShare} f) = rowPts c c f := rfl
  ihave Hown := (Entails.of_eq e1) $$ Hown
  iapply (hk _)
  unfold St
  rw [own_zero]
  iframe B HO HSg Hbr HTk HX HW HF HT HR R
  iexists f
  iexact Hown

/-- The first store fills the own row block. -/
theorem step_store_own {e a u v : ℕ} {off : Fin 2 → ℕ} {inb : ∀ d, off d + S512x256.size d ≤ S8192x256.size d}
    {val : Vec F S512x256 .f32}
    {hx : (oM.access (Rect.unit (s := S8192x256) off S512x256.size inb)).Stores Finset.univ}
    {hm : (Finset.univ : Finset (Rect.unit (s := S8192x256) off S512x256.size inb).shape.Idx) = Finset.univ
      ∨ ∀ d, (Rect.unit (s := S8192x256) off S512x256.size inb).stride d = 1}
    {k : PUnit → Prog (TpuEff nD τ sig (Elt F) Λ₀ .tc) α} (hoff : off = ![512 * c.val, 0]) (ha : 0 < a) (he : e ≤ 2)
    (hv : val = sent m c (peer c 0))
    (hk : St m K c 16 true e a 1 1 1 u v ⊢ wpc c (k ⟨⟩) Q) :
    St m K c 16 true e a 0 0 1 u v
      ⊢ wpc c (.op (.store oM (Rect.unit (s := S8192x256) off S512x256.size inb) val Finset.univ hx hm) k) Q := by
  subst hoff hv
  have hc : peer c 0 = c := Fin.ext (by rw [peer_val, Nat.add_zero, Nat.mod_eq_of_lt (dev_lt c)])
  unfold St
  rw [own_zero]
  iintro ⟨#B, HO, HSg, Hbr, HTk, HX, HW, HF, HT, HR, ⟨%f, Hown⟩, HYn, HYf, R⟩
  iapply (wp_store 𝒱₀ (c : Thread nD τ) none Set.univ (m := oM) (r := rowR c) (f := f) (Mk := Finset.univ)
      (S := (rowM c).view.set) subset_rfl) $$ [Hown]
  · unfold rowPts; iexact Hown
  iintro Hown
  ihave Hown := (Entails.of_eq (show _ = rowPts c c (outAt m c) by
    rw [hc]; exact pointsTo_congr (write_row m c c f))) $$ Hown
  ihave HTR := (use_tile m c ha he) $$ [HT HR]
  · iframe HT HR
  icases HTR with ⟨HT, HR⟩
  iapply hk
  unfold St
  rw [own_one]
  unfold Yn Yf
  rw [seg_nil (le_refl 1)]
  iframe B HO HSg Hbr HTk HX HW HF HT HR Hown HYn R

/-- The load of a column block before it is stored to: its value is not used. -/
theorem step_load_y {e a b p s u v : ℕ} {i : ℕ} {g : Bool}
    {hl : yM.view.LoadsAt (ycolR p).toLoadRect}
    {k : Vec F S512x256 .f32 → Prog (TpuEff nD τ sig (Elt F) Λ₀ .tc) α} (hp : 1 ≤ p ∧ p < 16)
    (hk : ∀ y, St m K c i g e a b p s u v ⊢ wpc c (k y) Q) :
    St m K c i g e a b p s u v ⊢ wpc c (.op (.load yM (ycolR p).toLoadRect hl) k) Q := by
  unfold St Yn
  rw [Nat.max_eq_left hp.1, seg_first hp.2]
  iintro ⟨#B, HO, HSg, Hbr, HTk, HX, HW, HF, HT, HR, Hown, ⟨⟨%f, Hy⟩, HYn⟩, R⟩
  iapply (wp_load_rect 𝒱₀ (c : Thread nD τ) none Set.univ (m := yM) (r := ycolR p) (q := fullShare) (f := f) subset_rfl) $$ [Hy]
  · unfold ycolPts; iexact Hy
  iintro Hy
  have e1 : ((yM.access (ycolR p)).loc (c : Thread nD τ) ↦[(yM.access (ycolR p)).set]{fullShare} f) = ycolPts c p f := rfl
  ihave Hy := (Entails.of_eq e1) $$ Hy
  iapply (hk _)
  unfold St Yn
  rw [Nat.max_eq_left hp.1, seg_first hp.2]
  iframe B HO HSg Hbr HTk HX HW HF HT HR Hown HYn R
  iexists f
  iexact Hy

/-- A later store puts the block for the device `p` places on into its column block. -/
theorem step_store_y {e a p s u v : ℕ} {val : Vec F S512x256 .f32}
    {hx : (yM.access (ycolR p)).Stores Finset.univ}
    {hm : (Finset.univ : Finset (ycolR p).shape.Idx) = Finset.univ ∨ ∀ d, (ycolR p).stride d = 1}
    {k : PUnit → Prog (TpuEff nD τ sig (Elt F) Λ₀ .tc) α} (hp : 1 ≤ p ∧ p < 16) (ha : p < a) (he : e ≤ p + 2) (hs : s ≤ p)
    (hv : val = sent m c (peer c p))
    (hk : St m K c 16 true e a (p + 1) (p + 1) s u v ⊢ wpc c (k ⟨⟩) Q) :
    St m K c 16 true e a p p s u v ⊢ wpc c (.op (.store yM (ycolR p) val Finset.univ hx hm) k) Q := by
  subst hv
  obtain ⟨q, rfl⟩ : ∃ q, p = q + 1 := ⟨p - 1, by omega⟩
  unfold St Yn
  rw [own_succ, Nat.max_eq_left hp.1, seg_first hp.2]
  iintro ⟨#B, HO, HSg, Hbr, HTk, HX, HW, HF, HT, HR, Hown, ⟨⟨%f, Hy⟩, HYn⟩, HYf, R⟩
  iapply (wp_store 𝒱₀ (c : Thread nD τ) none Set.univ (m := yM) (r := ycolR (q + 1)) (f := f) (Mk := Finset.univ)
      (S := (ycolM (q + 1)).view.set) subset_rfl) $$ [Hy]
  · unfold ycolPts; iexact Hy
  iintro Hy
  ihave HTR := (use_tile m c ha he) $$ [HT HR]
  · iframe HT HR
  icases HTR with ⟨HT, HR⟩
  iapply hk
  unfold St Yn Yf
  rw [own_succ, Nat.max_eq_left (Nat.le_add_left 1 (q + 1)), seg_last hs]
  have e1 : ycolPts c (q + 1) ((ycolM (q + 1)).view.write (Elt F) f (sent m c (peer c (q + 1))) Finset.univ)
      ⊢ iprop(∃ f, ⌜(ycolM (q + 1)).view.read (Elt F) f = sent m c (peer c (q + 1))⌝ ∗ ycolPts c (q + 1) f) := by
    iintro H
    iexists _
    isplitr
    rotate_left
    · iexact H
    · ipureintro; exact View.read_write_univ _ _
  ihave Hy := e1 $$ [Hy]
  · unfold ycolPts; iexact Hy
  iframe B HO HSg Hbr HTk HX HW HF HT HR Hown HYn Hy HYf R

end Cert.Scatter

end
-- ==== Proof.Body.lean ====
/-
The kernel on one device, from its first signal to its last wait.
-/
module

public import proofs.«01_k».proof.Proof.StepsA
public import proofs.«01_k».proof.Proof.StepsB

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- Running nothing ends with what is held. -/
theorem step_done (X : sProp (MT nD τ sig Unit (Elt F) ℕ UU ℕ)) : X ⊢ wpc c (Prog.ret PUnit.unit) (fun _ => X) := by
  show X ⊢ wp frame (wpE (defs₀ (F := F)) 𝒱₀ (c : Thread nD τ) none) Set.univ (Prog.ret PUnit.unit) (fun _ => X)
  rw [wp_ret]
  iintro H
  imodintro
  iexact H

attribute [local irreducible] St wp

set_option maxRecDepth 65536 in
set_option maxHeartbeats 1000000 in
/-- The whole kernel on device `c`: it signals the others and passes the barrier, brings in sixteen column blocks of `w`
    and computes a block with each, keeps one and sends fifteen, and waits for the sends and for the receives. -/
theorem body_run : St m K c 1 false 0 0 0 0 1 1 1 ⊢ wpc c (cc0_body (F := F) xM (Memref.isWhole_whole _) wM (Memref.isWhole_whole _)
    oM (Memref.isWhole_whole _) tM (Memref.isWhole_whole _) yM (Memref.isWhole_whole _) cc0_scratch2 cc0_scratch3 cc0_scratch4)
    (fun _ => St m K c 16 true 16 16 16 16 16 16 16) := by
  rw [cc0_body_eq_skeleton]
  simp only [cc0_body_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel,
    semSignalWord, semWaitWord, Prog.lift, Prog.bind_op, Prog.bind_ret, Prog.pure_eq_ret, wp_deviceId]
  repeat (first
    | refine step_signal m K c (by decide) (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq]; rfl)) ?_
    | refine step_barrier m K c ?_
    | refine step_fetch m K c (by decide) (by decide) (by decide) (wcol_slice c _ (k0_off1_eq c ⟨_, by decide⟩) _) rfl rfl ?_
    | refine step_wait_fetch m K c (by decide) (by decide) rfl rfl ?_
    | refine step_load_x m K c (by decide) (fun x hx => ?_)
    | refine step_load_w m K c (by decide) (fun w hw => ?_)
    | refine step_load_own m K c (k0_off2_eq c) (fun y => ?_)
    | refine step_load_y m K c (by decide) (fun y => ?_)
    | refine step_store_own m K c (k0_off2_eq c) (by decide) (by decide) (prod_val m c hx hw) ?_
    | refine step_store_y m K c (by decide) (by decide) (by decide) (by decide) (prod_val_cast m c hx hw) ?_
    | refine step_send m K c (by decide) (by decide) (by decide) rfl (row_slice c (k0_off3_eq c) _)
        (Fin.ext (by simp only [k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq]; rfl)) rfl rfl ?_
    | refine step_wait_send m K c (by decide) (by decide) rfl rfl ?_
    | refine step_wait_recv m K c (by decide) rfl rfl ?_)
  exact step_done c (St m K c 16 true 16 16 16 16 16 16 16)

end Cert.Scatter

end
-- ==== Proof.Pieces.lean ====
/-
The buffers in blocks, and the blocks by offset.

A whole buffer is its blocks together. The blocks are numbered by device or by place; a device counts them by the
offset from itself.
-/
module

public import proofs.«01_k».proof.Proof.State
public import Idealize.ShloMosaic.Lib.Ring

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-! ## Counting by offset -/

/-- Every device lies ahead of `c` by one of the offsets `0..15`, -/
theorem all_peers : (Finset.univ : Finset (Dev nD)) = (Finset.Ico 0 16).image (peer c) := by revert c; decide
/-- and behind it by one of them. -/
theorem all_backs : (Finset.univ : Finset (Dev nD)) = (Finset.Ico 0 16).image (back c) := by revert c; decide
/-- The places `0..15` are the offsets below sixteen. -/
theorem all_places : (Finset.univ : Finset (Fin 16)) = (Finset.Ico 0 16).image fx := by decide

/-- Offset zero ahead is the device itself, -/
theorem peer_zero : peer c 0 = c := by revert c; decide
/-- and so is offset zero behind. -/
theorem back_zero : back c 0 = c := by revert c; decide

/-- Different offsets below sixteen come from different devices. -/
theorem back_inj {c : Dev nD} {t t' : ℕ} (h : t < 16) (h' : t' < 16) (e : back c t = back c t') : t = t' := by
  have e := congrArg Fin.val e; have := dev_lt c; simp only [back_val] at e; omega

/-- Something for every device is that for every offset ahead of `c`; -/
theorem seg_peer (Φ : Dev nD → sProp 𝕄) : bigSep Finset.univ Φ = seg 0 16 fun t => Φ (peer c t) := by
  unfold seg
  rw [all_peers c, bigSep_image_of_injOn]
  intro t ht t' ht' e
  exact peer_inj (Finset.mem_Ico.mp (Finset.mem_coe.mp ht)).2 (Finset.mem_Ico.mp (Finset.mem_coe.mp ht')).2 e
/-- or behind it; -/
theorem seg_back (Φ : Dev nD → sProp 𝕄) : bigSep Finset.univ Φ = seg 0 16 fun t => Φ (back c t) := by
  unfold seg
  rw [all_backs c, bigSep_image_of_injOn]
  intro t ht t' ht' e
  exact back_inj (Finset.mem_Ico.mp (Finset.mem_coe.mp ht)).2 (Finset.mem_Ico.mp (Finset.mem_coe.mp ht')).2 e
/-- and for every place likewise. -/
theorem seg_place (Φ : Fin 16 → sProp 𝕄) : bigSep Finset.univ Φ = seg 0 16 fun t => Φ (fx t) := by
  unfold seg
  rw [all_places, bigSep_image_of_injOn]
  intro t ht t' ht' e
  have h := (Finset.mem_Ico.mp (Finset.mem_coe.mp ht)).2
  have h' := (Finset.mem_Ico.mp (Finset.mem_coe.mp ht')).2
  have e := congrArg Fin.val e
  rw [fx_val h, fx_val h'] at e
  exact e

/-- If `Φ` gives `Ψ` at each offset, it does so for a run of offsets. -/
theorem seg_mono {a b : ℕ} {Φ Ψ : ℕ → sProp 𝕄} (h : ∀ t, a ≤ t → t < b → Φ t ⊢ Ψ t) : seg a b Φ ⊢ seg a b Ψ :=
  bigSep_mono fun t ht => h t (Finset.mem_Ico.mp ht).1 (Finset.mem_Ico.mp ht).2
/-- If `Φ` is `Ψ` at each offset, it is so for a run of offsets. -/
theorem seg_congr {a b : ℕ} {Φ Ψ : ℕ → sProp 𝕄} (h : ∀ t, a ≤ t → t < b → Φ t = Ψ t) : seg a b Φ = seg a b Ψ :=
  bigSep_congr fun t ht => h t (Finset.mem_Ico.mp ht).1 (Finset.mem_Ico.mp ht).2
/-- A run of pairs is a pair of runs. -/
theorem seg_sep (a b : ℕ) (Φ Ψ : ℕ → sProp 𝕄) : (seg a b fun t => iprop(Φ t ∗ Ψ t)) = iprop(seg a b Φ ∗ seg a b Ψ) :=
  bigSep_sep' _ _ _

/-! ## The buffers -/

/-- The result buffer, holding `f`. -/
def outPts (f : (cc0_stg1_0 : Ref sig .tc).ty.Contents (Elt F)) : sProp 𝕄 := ((c : Thread nD τ).loc cc0_stg1_0) ↦{fullShare} f
/-- The staging array for the sends, holding `f`. -/
def yPts (f : (cc0_scratch1 : Ref sig .tc).ty.Contents (Elt F)) : sProp 𝕄 := ((c : Thread nD τ).loc cc0_scratch1) ↦{fullShare} f
/-- The tile of `w`, holding `f`. -/
def tPts (f : (cc0_scratch0 : Ref sig .tc).ty.Contents (Elt F)) : sProp 𝕄 := ((c : Thread nD τ).loc cc0_scratch0) ↦{fullShare} f
/-- The device's copy of `w`, as launched. -/
def wPts : sProp 𝕄 := ((c : Thread nD τ).loc main_arg1) ↦{fullShare} m ((c : Thread nD τ).loc main_arg1)

/-- The result buffer is its sixteen row blocks; -/
theorem out_blocks (f : (cc0_stg1_0 : Ref sig .tc).ty.Contents (Elt F)) :
    outPts c f = bigSep Finset.univ fun s : Dev nD => rowPts c s f :=
  Ring.pointsTo_blocks (ℓ := (c : Thread nD τ).loc cc0_stg1_0) (fun s : Dev nD => (rowM s).view.set) row_disjoint row_cover f
/-- `w` is its sixteen column blocks. -/
theorem w_blocks : wPts m c = bigSep Finset.univ fun d : Dev nD => wcolPts m c d :=
  Ring.pointsTo_blocks (ℓ := (c : Thread nD τ).loc main_arg1) (fun d : Dev nD => (wcolM d).view.set) wcol_disjoint wcol_cover _
/-- The staging array is its sixteen column blocks, -/
theorem y_blocks (f : (cc0_scratch1 : Ref sig .tc).ty.Contents (Elt F)) :
    yPts c f = bigSep Finset.univ fun t : Fin 16 => ycolPts c t.val f :=
  Ring.pointsTo_blocks (ℓ := (c : Thread nD τ).loc cc0_scratch1) (fun t : Fin 16 => (ycolM t.val).view.set) ycol_disjoint ycol_cover f
/-- and is made up again from them, whatever they hold. -/
theorem y_join (f : (cc0_scratch1 : Ref sig .tc).ty.Contents (Elt F)) :
    (bigSep Finset.univ fun t : Fin 16 => iprop(∃ f, ycolPts c t.val f)) ⊢ (iprop(∃ f, yPts c f) : sProp 𝕄) :=
  Ring.pointsTo_blocks_join_exists (ℓ := (c : Thread nD τ).loc cc0_scratch1) (fun t : Fin 16 => (ycolM t.val).view.set) ycol_disjoint ycol_cover f
/-- The tile is its two slots, -/
theorem t_blocks (f : (cc0_scratch0 : Ref sig .tc).ty.Contents (Elt F)) :
    tPts c f = bigSep Finset.univ fun k : Fin 2 => slotPts c k.val f :=
  Ring.pointsTo_blocks (ℓ := (c : Thread nD τ).loc cc0_scratch0) (fun k : Fin 2 => (slotM k.val).view.set) slot_disjoint slot_cover f
/-- and is made up again from them, whatever they hold. -/
theorem t_join (f : (cc0_scratch0 : Ref sig .tc).ty.Contents (Elt F)) :
    (bigSep Finset.univ fun k : Fin 2 => iprop(∃ f, slotPts c k.val f)) ⊢ (iprop(∃ f, tPts c f) : sProp 𝕄) :=
  Ring.pointsTo_blocks_join_exists (ℓ := (c : Thread nD τ).loc cc0_scratch0) (fun k : Fin 2 => (slotM k.val).view.set) slot_disjoint slot_cover f

/-! ## The buffers by offset -/

/-- The result buffer comes apart into the device's own row block and those it lends to the others; -/
theorem out_split (f : (cc0_stg1_0 : Ref sig .tc).ty.Contents (Elt F)) :
    outPts c f ⊢ iprop((∃ f, rowPts c c f) ∗ seg 1 16 fun t => iprop(∃ f, rowPts c (peer c t) f)) := by
  rw [out_blocks, seg_peer c, seg_first (by decide), peer_zero]
  iintro ⟨H, HR⟩
  isplitl [H]
  · iexists f; iexact H
  · iapply (seg_mono fun t _ _ => (show rowPts c (peer c t) f ⊢ iprop(∃ f, rowPts c (peer c t) f) from by iintro H; iexists f; iexact H)) $$ HR
/-- filled in, the row blocks are the result. -/
theorem out_join : iprop(rowPts c c (outAt m c) ∗ seg 1 16 fun t => rowPts c (back c t) (outAt m c)) ⊢ outPts c (outAt m c) := by
  rw [out_blocks, seg_back c, seg_first (by decide : 0 < 16), back_zero]

/-- `w` by offset. -/
theorem w_seg : wPts m c = seg 0 16 fun t => wcolPts m c (peer c t) := by rw [w_blocks, seg_peer c]

/-- An offset below sixteen names its own column block. -/
theorem y_place (t : ℕ) (h : t < 16) (f : (cc0_scratch1 : Ref sig .tc).ty.Contents (Elt F)) : ycolPts c (fx t).val f = ycolPts c t f := by
  rw [fx_val h]

/-- The staging array comes apart into its column blocks; the first is never used. -/
theorem y_split (f : (cc0_scratch1 : Ref sig .tc).ty.Contents (Elt F)) :
    yPts c f ⊢ iprop((∃ f, ycolPts c 0 f) ∗ seg 1 16 fun t => iprop(∃ f, ycolPts c t f)) := by
  rw [y_blocks, seg_place, seg_first (by decide)]
  iintro ⟨H, HR⟩
  isplitl [H]
  · iexists f; iexact H
  · iapply (seg_mono fun t _ h => (show ycolPts c (fx t).val f ⊢ iprop(∃ f, ycolPts c t f) from by
      rw [y_place c t h]; iintro H; iexists f; iexact H)) $$ HR
/-- The column blocks make up the staging array again. -/
theorem y_unsplit : iprop((∃ f, ycolPts c 0 f) ∗ seg 1 16 fun t => iprop(∃ f, ycolPts c t f)) ⊢ (iprop(∃ f, yPts c f) : sProp 𝕄) := by
  iintro ⟨⟨%f, H⟩, HR⟩
  iapply (y_join c f)
  rw [seg_place, seg_first (by decide : 0 < 16)]
  isplitl [H]
  · iexists f; iexact H
  · iapply (seg_mono fun t _ h => (show iprop(∃ f, ycolPts c t f) ⊢ (iprop(∃ f, ycolPts c (fx t).val f) : sProp 𝕄) from by
      rw [fx_val h])) $$ HR

/-- The tile is its two slots. -/
theorem t_split (f : (cc0_scratch0 : Ref sig .tc).ty.Contents (Elt F)) :
    tPts c f ⊢ iprop((∃ f, slotPts c 0 f) ∗ ∃ f, slotPts c 1 f) := by
  rw [t_blocks, Ring.bigSep_fin2]
  iintro ⟨H, HR⟩
  isplitl [H]
  · iexists f; iexact H
  · iexists f; iexact HR
/-- The two slots make up the tile again. -/
theorem t_unsplit : iprop((∃ f, slotPts c 0 f) ∗ ∃ f, slotPts c 1 f) ⊢ (iprop(∃ f, tPts c f) : sProp 𝕄) := by
  iintro ⟨⟨%f, H⟩, HR⟩
  iapply (t_join c f)
  rw [Ring.bigSep_fin2]
  isplitl [H]
  · iexists f; iexact H
  · iexact HR

end Cert.Scatter

end
-- ==== Proof.Ends.lean ====
/-
The two ends of the kernel on one device: what it starts from makes up the state before the first signal, and the
state after the last wait gives everything back.
-/
module

public import proofs.«01_k».proof.Proof.Pieces

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The rights to raise the semaphores this device raises. -/
def rights : sProp 𝕄 :=
  iprop((seg 1 16 fun t => dutyTok ER (barCell (peer c t)) 0 c)
    ∗ seg 1 16 fun t => iprop(dutyTok ER (sendCell c t) 0 0 ∗ dutyTok ER (recvCell (peer c t) t) 0 0))
/-- The right to wait on each of its own semaphores. -/
def posts : sProp 𝕄 :=
  iprop(atPos ER (barCell c) 0 ∅ 0 ∗ (seg 0 16 fun t => atPos ER (sendCell c t) 0 ∅ 0) ∗ seg 0 16 fun t => atPos ER (recvCell c t) 0 ∅ 0)
/-- What the others owe it. -/
def dues : sProp 𝕄 :=
  iprop(cred (tallyAt (barCell c) () 15) ∗ seg 1 16 fun t => cred (tallyAt (recvCell c t) () NB))
/-- The semaphores of the copies of `w`, at zero. -/
def wZero : sProp 𝕄 := iprop(semVal (wCell c 0) 0 ∗ semVal (wCell c 1) 0)
/-- The send and the receive semaphores, at zero. -/
def blockZero : sProp 𝕄 := iprop((seg 0 16 fun t => semVal (sendCell c t) 0) ∗ seg 0 16 fun t => semVal (recvCell c t) 0)
/-- What lies unused through the whole kernel: the first column block of the staging array, the first send semaphore and
    the first receive semaphore. -/
def spare : sProp 𝕄 := iprop((∃ f, ycolPts c 0 f) ∗ semVal (sendCell c 0) 0 ∗ semVal (recvCell c 0) 0)

/-- What the device starts from, its inbox aside. -/
def entry : sProp 𝕄 :=
  iprop(base m K ∗ (∃ W, owes (c : Thread nD τ) (debt c 1 1) W) ∗ rights c ∗ posts c ∗ dues c ∗ wZero c
    ∗ wPts m c ∗ Xs m c ∗ (∃ f, outPts c f) ∗ (∃ f, yPts c f) ∗ ∃ f, tPts c f)
/-- What it ends with. -/
def leave : sProp 𝕄 :=
  iprop((∃ W, owes (c : Thread nD τ) 0 W) ∗ semVal (barCell c) 0 ∗ blockZero c ∗ wZero c
    ∗ wPts m c ∗ Xs m c ∗ outPts c (outAt m c) ∗ (∃ f, yPts c f) ∗ ∃ f, tPts c f)

/-- The slots alternate. -/
theorem slot_even : slotFree (F := F) c 16 = slotFree c 0 := rfl
/-- Slot 17 is slot 1. -/
theorem slot_odd : slotFree (F := F) c (16 + 1) = slotFree c 1 := rfl

/-- The start makes up the state before the first signal. -/
theorem entry_st : entry m K c ⊢ |={Set.univ}=> iprop(St m K c 1 false 0 0 0 0 1 1 1 ∗ spare c) := by
  unfold entry rights posts dues wZero St Ow Sg Tk Wc Fl Tl Fr Yn Yf Pd Sp Rp
  rw [br_false, own_zero, w_seg, seg_nil (Nat.le_refl 0), seg_nil (Nat.le_refl 0), seg_nil (Nat.le_refl 0), seg_nil (Nat.le_refl 1), seg_nil (Nat.le_refl 1),
    seg_nil (Nat.le_refl 1), seg_nil (Nat.zero_le 1)]
  simp only [seg_sep]
  rw [seg_first (a := 0) (b := 16) (by decide) (fun t => atPos ER (sendCell c t) 0 ∅ 0), seg_first (a := 0) (b := 16) (by decide) (fun t => atPos ER (recvCell c t) 0 ∅ 0)]
  rw [seg_first (a := 0) (b := 0 + 2) (by decide), seg_first (a := 0 + 1) (b := 0 + 2) (by decide), seg_nil (a := 0 + 1 + 1) (Nat.le_refl _)]
  unfold slotFree spare
  iintro ⟨#B, HO, ⟨HtB, HtS, HtV⟩, ⟨HaB, ⟨HaS0, HaS⟩, HaV0, HaV⟩, ⟨HcB, HcV⟩, ⟨HwA, HwB⟩, Hw, Hx, ⟨%fo, Ho⟩, ⟨%fy, Hy⟩, ⟨%ft, Ht⟩⟩
  ihave Ho := (out_split c fo) $$ Ho
  ihave Hy := (y_split c fy) $$ Hy
  ihave Ht := (t_split c ft) $$ Ht
  icases Ho with ⟨Ho, Hos⟩
  icases Hy with ⟨Hy, Hys⟩
  icases Ht with ⟨Hta, Htb⟩
  ihave #HIs := (base_inv m K c (iSend 0)) $$ B
  ihave #HIv := (base_inv m K c (iRecv 0)) $$ B
  imod (cell_close ER (kRd m) (Set.mem_univ (K (c, iSend 0))) (fun h => h) (R := 0) (fun r _ => duties_send_zero m c r)) $$ [HaS0] with HzS
  · isplitr; · iexact HIs
    iexact HaS0
  imod (cell_close ER (kRd m) (Set.mem_univ (K (c, iRecv 0))) (fun h => h) (R := 0) (fun r _ => duties_recv_zero m c r)) $$ [HaV0] with HzV
  · isplitr; · iexact HIv
    iexact HaV0
  imodintro
  iframe B HO HtB HtS HtV HaB HaS HaV HcB HcV HwA HwB Hw Hx Ho Hos Hy Hys Hta Htb HzS HzV

/-- The state after the last wait gives everything back. -/
theorem st_leave : iprop(St m K c 16 true 16 16 16 16 16 16 16 ∗ spare c) ⊢ leave m c := by
  unfold leave blockZero wZero St Ow Sg Tk Wc Fl Tl Fr Yn Yf Pd Sp Rp
  rw [br_true, own_succ, w_seg]
  simp only [seg_sep, seg_nil (Nat.le_refl 16), debt_zero]
  rw [seg_nil (a := max 16 1) (b := 16) (by decide)]
  rw [seg_first (a := 0) (b := 16) (by decide) (fun t => semVal (sendCell c t) 0), seg_first (a := 0) (b := 16) (by decide) (fun t => semVal (recvCell c t) 0)]
  rw [seg_first (a := 16) (b := 16 + 2) (by decide), seg_first (a := 16 + 1) (b := 16 + 2) (by decide), seg_nil (a := 16 + 1 + 1) (Nat.le_refl _)]
  rw [slot_even c, slot_odd c]
  unfold slotFree spare
  iintro ⟨⟨-, HO, -, ⟨HzB, -⟩, -, Hx, ⟨Hw, -⟩, -, -, ⟨⟨Hta, HwA⟩, ⟨Htb, HwB⟩, -⟩, Ho, -, -, -, ⟨-, Hys, HzSs⟩, -, Hos, HzVs⟩, Hy, HzS, HzV⟩
  ihave Ho := (out_join m c) $$ [Ho Hos]
  · isplitl [Ho] <;> iassumption
  ihave Hy := (y_unsplit c) $$ [Hy Hys]
  · isplitl [Hy] <;> iassumption
  ihave Ht := (t_unsplit c) $$ [Hta Htb]
  · isplitl [Hta] <;> iassumption
  iframe HO HzB HzS HzSs HzV HzVs HwA HwB Hw Hx Ho Hy Ht

end Cert.Scatter

end
-- ==== Proof.Deal.lean ====
/-
Dealing out the rights at launch.

Every shared semaphore's protocol is set up at once, for all devices together. The rights to raise a semaphore are made
where the semaphore is and dealt to the devices that raise it; what each device owes is at the same time what the
others are owed.
-/
module

public import proofs.«01_k».proof.Proof.Ends
public import Idealize.ShloMosaic.Lib.Pipeline.Launch
public import Idealize.ShloMosaic.Lib.Pipeline.Kit
public import Idealize.ShloMosaic.Lib.Pipeline.CollectiveSegs

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The shared semaphores and the rights to raise them, all together -/

/-- Different kinds or offsets name different semaphores. -/
theorem csem_injective : Function.Injective csem := by
  rintro (⟨⟩ | t | t) (⟨⟩ | t' | t') h
  · rfl
  · cases h
  · cases h
  · cases h
  · have e : 4 + t.val = 4 + t'.val := congrArg Fin.val (SemLoc.dma.inj h)
    rw [Fin.ext (Nat.add_left_cancel e)]
  · have e : 4 + t.val = 20 + t'.val := congrArg Fin.val (SemLoc.dma.inj h)
    have := t.isLt; omega
  · cases h
  · have e : 20 + t.val = 4 + t'.val := congrArg Fin.val (SemLoc.dma.inj h)
    have := t'.isLt; omega
  · have e : 20 + t.val = 20 + t'.val := congrArg Fin.val (SemLoc.dma.inj h)
    rw [Fin.ext (Nat.add_left_cancel e)]

/-- Different devices, kinds or offsets name different shared semaphores. -/
theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

/-- All the shared semaphores. -/
def shared : Finset (GSem nD τ sig) := Finset.univ.map ⟨kcell, kcell_injective⟩

/-- The rights made at one device: to raise its barrier, for each device; to raise each of its other shared semaphores. -/
abbrev rightOf (cj : Dev nD × (Dev nD ⊕ (Fin 16 ⊕ Fin 16))) : GSem nD τ sig × ℕ × Dev nD := match cj.2 with
  | .inl p => (barCell cj.1, 0, p)
  | .inr k => (kcell (cj.1, .inr k), 0, 0)

/-- No right is made twice. -/
theorem rightOf_injective : Function.Injective rightOf := by
  rintro ⟨c, p | k⟩ ⟨c', p' | k'⟩ h
  · have h1 : c = c' := congrArg (fun x : GSem nD τ sig × ℕ × Dev nD => x.1.1.1) h
    have h2 : p = p' := congrArg (fun x : GSem nD τ sig × ℕ × Dev nD => x.2.2) h
    rw [h1, h2]
  · have e : csem (.inl ()) = csem (.inr k') := congrArg (fun x : GSem nD τ sig × ℕ × Dev nD => x.1.2) h
    cases csem_injective e
  · have e : csem (.inr k) = csem (.inl ()) := congrArg (fun x : GSem nD τ sig × ℕ × Dev nD => x.1.2) h
    cases csem_injective e
  · have h1 : c = c' := congrArg (fun x : GSem nD τ sig × ℕ × Dev nD => x.1.1.1) h
    have e : csem (.inr k) = csem (.inr k') := congrArg (fun x : GSem nD τ sig × ℕ × Dev nD => x.1.2) h
    rw [h1, Sum.inr_injective (csem_injective e)]

/-- All the rights. -/
def allRights : Finset (GSem nD τ sig × ℕ × Dev nD) := Finset.univ.map ⟨rightOf, rightOf_injective⟩

/-- The ghost state at launch. -/
def ghost₀ : UU :=
  (initOf (Pipeline.cells cfgs cellOf_inj) (Pipeline.launchToks cfgs cellOf_inj), (initOf shared allRights, 1))

/-- The rights made at device `c`. -/
def made (c : Dev nD) : sProp 𝕄 :=
  iprop((bigSep Finset.univ fun p : Dev nD => dutyTok ER (barCell c) 0 p)
    ∗ (bigSep Finset.univ fun t : Fin 16 => dutyTok ER (kcell (c, .inr (.inl t))) 0 0)
    ∗ bigSep Finset.univ fun t : Fin 16 => dutyTok ER (kcell (c, .inr (.inr t))) 0 0)

/-- What the ghost state gives device `c`. -/
def minted (c : Dev nD) : sProp 𝕄 :=
  iprop((bigSep Finset.univ fun k : CI => roundState ER (kRd m) (kcell (c, k)) 0)
    ∗ (bigSep Finset.univ fun k : CI => iprop(atPos ER (kcell (c, k)) 0 ∅ 0 ∗ reached ER (kcell (c, k)) 0)) ∗ made c)

/-- The shared part of the ghost state is what it gives the devices. -/
theorem mint : BI.own (ER (initOf shared allRights)) ⊢ (|==> bigSep Finset.univ (minted m) : sProp 𝕄) := by
  have hX (Φ : GSem nD τ sig → sProp 𝕄) : bigSep shared Φ = bigSep Finset.univ fun c : Dev nD => bigSep Finset.univ fun k : CI => Φ (kcell (c, k)) := by
    unfold shared; rw [bigSep_map, bigSep_univ_prod]; rfl
  have hT : bigSep allRights (fun x => (dutyTok ER x.1 x.2.1 x.2.2 : sProp 𝕄)) = bigSep Finset.univ fun c : Dev nD => made c := by
    unfold allRights; rw [bigSep_map, bigSep_univ_prod]
    refine bigSep_congr fun c _ => ?_
    unfold made; rw [bigSep_univ_sum, bigSep_univ_sum]; rfl
  iintro HX
  imod (Rounds.fund ER (kRd m) shared allRights) $$ HX with ⟨Hst, Hr, Hat, Htok⟩
  imodintro
  ihave Hst' := (Entails.of_eq (hX fun g => roundState ER (kRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat' Hr']
  · isplitl [Hat'] <;> iassumption
  iexact Htok'

/-! ## The semaphores at zero -/

/-- The semaphores the kernel declares: two for the copies of `w`, sixteen for sending, sixteen for receiving. -/
def osem (i : Fin 34) : SemLoc sig := .dma ⟨2 + i.val, by show _ < 36; omega⟩

/-- The numbering of the declared semaphores. -/
def number : (Fin 2 ⊕ (Fin 16 ⊕ Fin 16)) ≃ Fin 34 :=
  (Equiv.sumCongr (Equiv.refl _) finSumFinEquiv).trans finSumFinEquiv

/-- The number of the send semaphore of offset `t`. -/
theorem osem_send (t : Fin 16) : osem (number (.inr (.inl t))) = .dma (sendS t) :=
  congrArg SemLoc.dma (Fin.ext (by show 2 + (2 + t.val) = 4 + t.val; omega))
/-- The number of the receive semaphore of offset `t`. -/
theorem osem_recv (t : Fin 16) : osem (number (.inr (.inr t))) = .dma (recvS t) :=
  congrArg SemLoc.dma (Fin.ext (by show 2 + (2 + (16 + t.val)) = 20 + t.val; omega))

/-- The declared semaphores by kind; -/
theorem declared_eq (c : Dev nD) :
    (Pipeline.ownSems0 (Ix := Unit) (Name := ℕ) (U := UU) (Lvl := ℕ) (Val := Elt F) (τ := τ) osem c : sProp 𝕄) = iprop(wZero c ∗ blockZero c) := by
  unfold Pipeline.ownSems0 wZero blockZero
  rw [bigSep_univ_equiv number, bigSep_univ_sum, bigSep_univ_sum, Ring.bigSep_fin2]
  simp only [osem_send, osem_recv]
  rw [seg_place, seg_place]
  rfl
/-- the barrier semaphore is the only other one. -/
theorem undeclared_eq (c : Dev nD) : (unscopedSems0 c : sProp 𝕄) = semVal (barCell c) 0 := by
  unfold unscopedSems0; rw [bigSep_eq_bigSepL_of_eq [SemLoc.reg barS] (by decide) (by decide)]; rfl

/-- The shared semaphores of one device, by kind. -/
theorem by_kind (c : Dev nD) (Φ : GSem nD τ sig → sProp 𝕄) :
    (bigSep Finset.univ fun k : CI => Φ (kcell (c, k)))
      = iprop(Φ (barCell c) ∗ (seg 0 16 fun t => Φ (sendCell c t)) ∗ seg 0 16 fun t => Φ (recvCell c t)) := by
  rw [bigSep_univ_sum, bigSep_univ_sum, seg_place, seg_place, Finset.univ_unique, bigSep_singleton]
  rfl

/-! ## The deal -/

/-- One device's part of the set-up: its semaphores at zero begin their protocols. -/
theorem begin_one (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k => iprop(∃ κ : ℕ, cellInv ER (kRd m) κ (kcell (c, k))))
          ∗ (bigSep Finset.univ fun k => iprop(atPos ER (kcell (c, k)) 0 ∅ 0 ∗ reached ER (kcell (c, k)) 0)) ∗ made c ∗ wZero c) := by
  have hall : iprop((bigSep Finset.univ fun k : CI => semVal (kcell (c, k)) 0) ∗ bigSep Finset.univ fun k : CI => roundState ER (kRd m) (kcell (c, k)) 0)
      ⊢ (|={Set.univ}=> bigSep Finset.univ fun k => iprop(∃ κ : ℕ, cellInv ER (kRd m) κ (kcell (c, k))) : sProp 𝕄) := by
    rw [← bigSep_sep']
    exact (bigSep_mono fun k _ => (Rounds.body_intro ER (kRd m) (kcell (c, k))).trans inv_alloc).trans (bigSep_fupd _ _)
  rw [declared_eq, undeclared_eq]
  rw [by_kind c fun g => semVal g 0] at hall
  unfold minted blockZero
  iintro ⟨⟨Hw, Hb⟩, Hu, Hst, Hat, Htok⟩
  imod hall $$ [Hb Hu Hst] with Hinv
  · isplitr [Hst]
    · isplitl [Hu]; · iexact Hu
      iexact Hb
    · iexact Hst
  imodintro
  iframe Hinv Hat Htok Hw

/-- What is not needed may be left. -/
theorem drop_first (Φ : ℕ → sProp 𝕄) : seg 0 16 Φ ⊢ seg 1 16 Φ := by
  rw [seg_first (by decide)]
  iintro ⟨-, H⟩; iexact H

/-- Two families may be taken in either order. -/
theorem either_order {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), bigSep_univ_equiv (Equiv.prodComm B A), bigSep_univ_prod]
  rfl

/-- What stands at each device is dealt to the devices that use it. -/
theorem made_rights : (bigSep Finset.univ fun c : Dev nD => (made c : sProp 𝕄)) ⊢ bigSep Finset.univ fun c : Dev nD => rights c := by
  have hbar : (bigSep Finset.univ fun c : Dev nD => bigSep Finset.univ fun p : Dev nD => (dutyTok ER (barCell c) 0 p : sProp 𝕄))
      ⊢ bigSep Finset.univ fun c : Dev nD => seg 1 16 fun t => dutyTok ER (barCell (peer c t)) 0 c := by
    rw [either_order]
    refine bigSep_mono fun c _ => ?_
    rw [seg_peer c]
    exact drop_first _
  have hsend (c : Dev nD) : (bigSep Finset.univ fun t : Fin 16 => (dutyTok ER (kcell (c, .inr (.inl t))) 0 0 : sProp 𝕄))
      ⊢ seg 1 16 fun t => dutyTok ER (sendCell c t) 0 0 := by
    rw [seg_place]
    exact drop_first _
  have hrecv : (bigSep Finset.univ fun c : Dev nD => bigSep Finset.univ fun t : Fin 16 => (dutyTok ER (kcell (c, .inr (.inr t))) 0 0 : sProp 𝕄))
      ⊢ bigSep Finset.univ fun c : Dev nD => seg 1 16 fun t => dutyTok ER (recvCell (peer c t) t) 0 0 := by
    rw [either_order, bigSep_congr fun (t : Fin 16) _ => bigSep_univ_equiv (ring t.val) fun c => (dutyTok ER (kcell (c, .inr (.inr t))) 0 0 : sProp 𝕄), either_order]
    refine bigSep_mono fun c _ => ?_
    rw [seg_place]
    refine (drop_first _).trans (seg_mono fun t _ h => ?_)
    show dutyTok ER (recvCell (peer c (fx t).val) t) 0 0 ⊢ dutyTok ER (recvCell (peer c t) t) 0 0
    rw [fx_val h]
  have hsends : (bigSep Finset.univ fun c : Dev nD => bigSep Finset.univ fun t : Fin 16 => (dutyTok ER (kcell (c, .inr (.inl t))) 0 0 : sProp 𝕄))
      ⊢ bigSep Finset.univ fun c : Dev nD => seg 1 16 fun t => dutyTok ER (sendCell c t) 0 0 := bigSep_mono fun c _ => hsend c
  unfold made rights
  simp only [seg_sep, bigSep_sep']
  iintro ⟨H1, H2, H3⟩
  isplitl [H1]; · iapply hbar $$ H1
  isplitl [H2]; · iapply hsends $$ H2
  iapply hrecv $$ H3

/-- What the set-up leaves with device `c`. -/
def dealt (c : Dev nD) : sProp 𝕄 := iprop((∃ K, recs m K) ∗ rights c ∗ posts c ∗ wZero c)

/-- The whole set-up: the protocols of all the devices, begun together. -/
theorem deal_all :
    (bigSep Finset.univ fun c : Dev nD => iprop((bigSep Finset.univ fun k => iprop(∃ κ : ℕ, cellInv ER (kRd m) κ (kcell (c, k))))
          ∗ (bigSep Finset.univ fun k => iprop(atPos ER (kcell (c, k)) 0 ∅ 0 ∗ reached ER (kcell (c, k)) 0)) ∗ made c ∗ wZero c) : sProp 𝕄)
      ⊢ bigSep Finset.univ (dealt m) := by
  simp only [bigSep_sep']
  rw [← bigSep_univ_prod (fun ck : Dev nD × CI => iprop(∃ κ : ℕ, cellInv ER (kRd m) κ (kcell ck))),
    ← bigSep_univ_prod (fun ck : Dev nD × CI => (reached ER (kcell ck) 0 : sProp 𝕄))]
  have hpost : (bigSep Finset.univ fun c : Dev nD => bigSep Finset.univ fun k : CI => (atPos ER (kcell (c, k)) 0 ∅ 0 : sProp 𝕄))
      = bigSep Finset.univ fun c : Dev nD => posts c := bigSep_congr fun c _ => by unfold posts; rw [by_kind c fun g => atPos ER g 0 ∅ 0]
  rw [hpost]
  iintro ⟨HI, ⟨Hat, #HR⟩, Htok, Hw⟩
  ihave HK := (BI.bigSep_exists_pi Finset.univ (fun (ck : Dev nD × CI) (κ : ℕ) => (cellInv ER (kRd m) κ (kcell ck) : sProp 𝕄))) $$ HI
  icases HK with ⟨%K, #HI⟩
  ihave Htk := (made_rights (F := F)) $$ Htok
  have hone (c : Dev nD) : iprop(recs m K ∗ (rights c ∗ posts c ∗ wZero c)) ⊢ dealt m c := by
    unfold dealt
    iintro ⟨H, HR⟩
    isplitl [H]
    · iexists K; iexact H
    · iexact HR
  iapply (bigSep_with_persistent (R := recs m K) fun c _ => hone c)
  isplitr
  · unfold recs
    isplitl; · iexact HI
    iexact HR
  · simp only [bigSep_sep']
    isplitl [Htk]; · iexact Htk
    isplitl [Hat]; · iexact Hat
    iexact Hw

/-- The set-up from the semaphores of every device. -/
theorem set_up : (bigSep Finset.univ fun c => iprop(Pipeline.ownSems0 (Ix := Unit) (Name := ℕ) (U := UU) (Lvl := ℕ) (Val := Elt F) (τ := τ) osem c
      ∗ unscopedSems0 c ∗ minted m c) : sProp 𝕄) ⊢ |={Set.univ}=> bigSep Finset.univ (dealt m) :=
  ((bigSep_mono fun c _ => begin_one m c).trans (bigSep_fupd _ _)).trans (BI.fupd_mono (deal_all m))

/-! ## What is owed is what the others are owed -/

/-- What device `c` owes at launch. -/
def owed₀ (c : Dev nD) : CellTallies nD τ sig Unit := debt c 1 1

/-- One device in sixteen is `t` places before `c`. -/
theorem one_behind (c : Dev nD) (t n : ℕ) : (∑ d : Dev nD, if c = peer d t then n else 0) = n := by
  rw [Finset.sum_congr rfl fun d _ => if_congr (Q := d = back c t)
    ⟨fun h => by rw [h, back_peer], fun h => by rw [h, peer_back]⟩ rfl rfl, Finset.sum_ite_eq' Finset.univ (back c t) fun _ => n, if_pos (Finset.mem_univ _)]

/-- At launch device `d` owes one unit to the barrier of `c` for each offset `1..15` that leads from `d` to `c`. -/
theorem owed_bar (c d : Dev nD) : owed₀ d (barCell c) () = ∑ t ∈ Finset.Ico 1 16, if c = peer d t then 1 else 0 := by
  unfold owed₀ debt
  rw [Pi.add_apply, Finsupp.add_apply, Finset.sum_apply, Finsupp.finset_sum_apply, Finset.sum_apply, Finsupp.finset_sum_apply]
  rw [Finset.sum_eq_zero (s := Finset.Ico 1 16) (f := fun t => tallyAt (Ix := Unit) (recvCell (peer d t) t) () NB (barCell c) ()), Nat.add_zero]
  · refine Finset.sum_congr rfl fun t _ => ?_
    rw [tallyAt_apply]
    refine if_congr ⟨fun h => congrArg (fun g : GSem nD τ sig => g.1.1) h.1, fun h => ⟨by rw [h], rfl⟩⟩ rfl rfl
  · intro t _
    rw [tallyAt_apply, if_neg fun h => ?_]
    cases congrArg Prod.snd h.1

/-- At launch device `d` owes one block to receive semaphore `t` of `c` if offset `t` leads from `d` to `c`. -/
theorem owed_recv (c d : Dev nD) {t : ℕ} (h0 : 1 ≤ t) (h : t < 16) : owed₀ d (recvCell c t) () = if c = peer d t then NB else 0 := by
  unfold owed₀ debt
  rw [Pi.add_apply, Finsupp.add_apply, Finset.sum_apply, Finsupp.finset_sum_apply, Finset.sum_apply, Finsupp.finset_sum_apply]
  rw [Finset.sum_eq_zero (s := Finset.Ico 1 16) (f := fun u => tallyAt (Ix := Unit) (barCell (peer d u)) () 1 (recvCell c t) ()), Nat.zero_add,
    Finset.sum_eq_single_of_mem t (Finset.mem_Ico.mpr ⟨h0, h⟩)]
  · rw [tallyAt_apply]
    refine if_congr ⟨fun h => congrArg (fun g : GSem nD τ sig => g.1.1) h.1, fun h => ⟨by rw [h], rfl⟩⟩ rfl rfl
  · intro u hu hne
    rw [tallyAt_apply, if_neg fun e => hne ?_]
    have e : 20 + (fx t).val = 20 + (fx u).val := congrArg (fun q : DmaSem sig => q.val) (SemLoc.dma.inj (congrArg Prod.snd e.1))
    rw [fx_val h, fx_val (Finset.mem_Ico.mp hu).2] at e
    omega
  · intro u _
    rw [tallyAt_apply, if_neg fun h => ?_]
    cases congrArg Prod.snd h.1

/-- Altogether the barrier of each device is owed fifteen units at launch. -/
theorem launch_bar (c : Dev nD) :
    tallyOn (barCell c) (launchCredit (Pipeline.owing owed₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm,
    Finset.sum_congr rfl fun t _ => one_behind c t 1, Finset.sum_const, Nat.card_Ico]
  rfl

/-- Altogether each receive semaphore of the offsets `1..15` is owed one block at launch. -/
theorem launch_recv (c : Dev nD) {t : ℕ} (h0 : 1 ≤ t) (h : t < 16) :
    tallyOn (recvCell c t) (launchCredit (Pipeline.owing owed₀) 0 (recvCell c t)) = (tallyAt (recvCell c t) () NB : CellTallies nD τ sig Unit) := by
  unfold tallyAt; refine congrArg _ (Finsupp.ext fun u => ?_); cases u
  rw [Pipeline.launchCredit_owing, Finsupp.single_eq_same, Finset.sum_congr rfl fun d _ => owed_recv c d h0 h, one_behind c t NB]

/-- At launch each device is owed its barrier's fifteen units and its fifteen blocks. -/
theorem launch_dues (c : Dev nD) : (Pipeline.launchCred owed₀ c : sProp 𝕄) ⊢ dues c := by
  unfold Pipeline.launchCred dues
  rw [bigSep_univ_at _ (SemLoc.reg barS), launch_bar]
  refine sep_mono_right ?_
  refine (bigSep_subset (t := (Finset.Ico 1 16).image fun t => SemLoc.dma (recvS (fx t))) fun sm hs => ?_).trans ?_
  · obtain ⟨t, -, rfl⟩ := Finset.mem_image.mp hs
    exact Finset.mem_erase.mpr ⟨fun h => (by cases h), Finset.mem_univ _⟩
  · rw [bigSep_image_of_injOn]
    · exact bigSep_mono fun t ht => Entails.of_eq (congrArg cred (launch_recv c (Finset.mem_Ico.mp ht).1 (Finset.mem_Ico.mp ht).2))
    · intro t ht u hu e
      have e : 20 + (fx t).val = 20 + (fx u).val := congrArg (fun q : DmaSem sig => q.val) (SemLoc.dma.inj e)
      rw [fx_val (Finset.mem_Ico.mp (Finset.mem_coe.mp ht)).2, fx_val (Finset.mem_Ico.mp (Finset.mem_coe.mp hu)).2] at e
      omega

end Cert.Scatter

end
-- ==== Proof.Launch.lean ====
/-
The launch: the kernel run on all sixteen devices.
-/
module

public import proofs.«01_k».proof.Proof.Body
public import proofs.«01_k».proof.Proof.Deal
public import proofs.«01_k».proof.Proof.Gen.KernelIdeal.Frame

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel is given and what it gives back -/

/-- What a device has before its buffers come. -/
def given (c : Dev nD) : sProp 𝕄 := iprop(dealt m c ∗ dues c ∗ wPts m c ∗ levAts L lv)
/-- Before the kernel; -/
def before₀ (c : Dev nD) : sProp 𝕄 := iprop(given m c ∗ (∃ f, tPts c f) ∗ ∃ f, yPts c f)
/-- and after it. -/
def after₁ (c : Dev nD) : sProp 𝕄 :=
  iprop(semVal (barCell c) 0 ∗ blockZero c ∗ wZero c ∗ wPts m c ∗ (∃ f, tPts c f) ∗ ∃ f, yPts c f)

/-- The kernel's one point: the rows of `x` come in and stay as they are, the result goes out. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => outAt m c
  Φ t := match t with
    | ⟨0, _⟩ => before₀ m c
    | ⟨_ + 1, _⟩ => after₁ m c
  q _ := fullShare
  owed t := match t with
    | ⟨0, _⟩ => owed₀ c
    | ⟨_ + 1, _⟩ => 0

/-- The call has two windows: `x` and the result. -/
theorem both_windows (Φ : Fin cfg0.W → sProp 𝕄) : bigSep Finset.univ Φ = iprop(Φ (0 : Fin 2) ∗ Φ (1 : Fin 2)) := bigSep_W0 Φ

/-- A staging buffer of device `c`, holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- To own a whole staging buffer with contents `X` is to hold it, with contents `X`. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- The rows of `x` in their staging buffer. -/
theorem xs_eq (c : Dev nD) : Xs m c = (((c : Thread nD τ).loc cc0_stg0_0) ↦{fullShare} xAt m c : sProp 𝕄) := by
  unfold Xs; simp only [Memref.view_whole, View.set_whole]

/-- The kernel on device `c`, from what it is given to what it gives back. -/
theorem kernel_run (K : Dev nD × CI → ℕ) (c : Dev nD) : entry m K c ⊢ wpc c (cc0_body (F := F) xM (Memref.isWhole_whole _) wM (Memref.isWhole_whole _)
    oM (Memref.isWhole_whole _) tM (Memref.isWhole_whole _) yM (Memref.isWhole_whole _) cc0_scratch2 cc0_scratch3 cc0_scratch4)
    (fun _ => leave m c) := by
  have h1 := body_run m K c
  have h2 : iprop(St m K c 1 false 0 0 0 0 1 1 1 ∗ spare c) ⊢ wpc c (cc0_body (F := F) xM (Memref.isWhole_whole _) wM (Memref.isWhole_whole _)
      oM (Memref.isWhole_whole _) tM (Memref.isWhole_whole _) yM (Memref.isWhole_whole _) cc0_scratch2 cc0_scratch3 cc0_scratch4)
      (fun _ => leave m c) :=
    ((sep_mono_left h1).trans (wp_frame_r _ _ _)).trans (wp_mono _ _ _ fun _ => st_leave m K c)
  iintro H
  imod (entry_st m K c) $$ H with H
  iapply h2 $$ H

/-- What the kernel's point starts with; -/
def pointPre (c : Dev nD) : sProp 𝕄 :=
  iprop(before₀ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
/-- what it ends with. -/
def pointPost (c : Dev nD) : sProp 𝕄 :=
  iprop(after₁ m c ∗ (dats m 0 c).owesAt () t0_0.succ ∗ staged c cc0_stg0_0 (xAt m c) ∗ staged c cc0_stg1_0 (outAt m c))

/-- The rows of `x` are fetched before the body runs. -/
theorem fetched_x (t : Fin cfg0.N) : (cfg0.win (0 : Fin 2)).fetch t = true := by rw [fin_N0 t]; rfl

/-- What the call provides before the body is what the body starts from. -/
theorem entry_of_pre (c : Dev nD) : pointPre m c ⊢ iprop(∃ K, entry m K c) := by
  unfold pointPre before₀ given dealt entry base outPts
  rw [xs_eq]
  iintro ⟨⟨⟨⟨⟨%K, HK⟩, Hr, Hp, Hz⟩, Hd, Hw, Hl⟩, Ht, Hy⟩, Ho, ⟨%d0, %g0, %hg0, Hx⟩, ⟨%d1, %g1, %hg1, Hout⟩⟩
  have hx : g0 = xAt m c := by rw [hg0]; unfold Dat.before; rw [if_pos (fetched_x t0_0)]; rfl
  subst hx
  unfold Dat.owesAt Pipeline.owesWithin
  icases Ho with ⟨%W, %hW, HO⟩
  iexists K
  iframe HK Hl Hr Hp Hd Hz Hw Hx Hy Ht
  isplitl [HO]
  · iexists W; iexact HO
  · iexists g1; iexact Hout

/-- What the body ends with is what the call expects after it. -/
theorem post_of_leave (c : Dev nD) : leave m c ⊢ pointPost m c := by
  unfold leave outPts pointPost after₁ Dat.owesAt Pipeline.owesWithin
  rw [xs_eq, show (dats m 0 c).owed t0_0.succ = 0 from rfl]
  iintro ⟨⟨%W, HO⟩, Hb, Hz, Hwz, Hw, Hx, Hout, Hy, Ht⟩
  iframe Hb Hz Hwz Hw Ht Hy
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The kernel's body meets its contract on every device. -/
theorem body_meets (c : Dev nD) : BodyObligation (dats (F := F) m 0 c) (defs₀ (F := F)) 𝒱₀ () Set.univ := fun t => by
  rw [fin_N0 t]
  rw [both_windows, both_windows]
  simp only [owns_staged]
  show pointPre m c ⊢ wpc c (cc0_body (F := F) xM (Memref.isWhole_whole _) wM (Memref.isWhole_whole _)
    oM (Memref.isWhole_whole _) tM (Memref.isWhole_whole _) yM (Memref.isWhole_whole _) cc0_scratch2 cc0_scratch3 cc0_scratch4)
    (fun _ => pointPost m c)
  have h (K : Dev nD × CI → ℕ) := (kernel_run m K c).trans (wp_mono _ _ _ fun _ => post_of_leave m c)
  refine (entry_of_pre m c).trans ?_
  iintro ⟨%K, H⟩
  iapply (h K) $$ H

/-! ## The run -/

/-- The declared semaphores are numbered without gaps or repeats. -/
theorem declared_facts : Pipeline.OwnSemFacts cfg0.spec osem := by decide

/-- Every staging buffer is held whole. -/
theorem share_full (c : Dev nD) (w : Fin cfg0.W) : (dats m 0 c).share w = fullShare := by unfold Dat.share; split <;> rfl

/-- What a device gets at launch is what it holds before the call, -/
theorem given_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m c)
      ⊢ |={Set.univ}=> iprop(given m c ∗ emp) := by
  rw [Pipeline.unscopedRestP_none, unscopedRest0_eq]
  unfold given wPts
  iintro ⟨Hw, Hlev, Hcr, -, HG⟩
  ihave Hc := (launch_dues (F := F) c) $$ Hcr
  imodintro
  iframe HG Hc Hw Hlev

/-- with the scratch arrays it is what the body finds, -/
theorem before_intro (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀ tPts yPts
  iintro ⟨Hs, -, Ht, Hy⟩
  iframe Hs Ht Hy

/-- and what the body leaves gives back `w`, the semaphores at zero and the scratch arrays. -/
theorem after_exit (c : Dev nD) :
    (dats m 0 c).Φ (Fin.last cfg0.N) ⊢ iprop((unscopedSems0 c ∗ wPts m c) ∗ Pipeline.ownSems0 osem c ∗ Pipeline.scopedRest cfg0.spec c) := by
  rw [show (dats m 0 c).Φ (Fin.last cfg0.N) = after₁ m c from rfl, scopedRest0_eq, declared_eq, undeclared_eq]
  unfold after₁ tPts yPts
  iintro ⟨Hb, Hz, Hwz, Hw, Ht, Hy⟩
  iframe Hb Hz Hwz Hw Ht Hy

/-- A device may wait for its staging buffers whatever it owes. -/
theorem staging_waits (c : Dev nD) : (levAts L lv : sProp 𝕄) ⊢ Pipeline.cellsWaits cfgs (dats m) () 0 c :=
  Pipeline.cellsWaits_intro cfgs (dats m) () 0 c fun w s t => by
    have hlv : ∀ u, lv ((c : Thread nD τ), SemLoc.dma ((cfg0.win w).sem s)) u = 0 := fun u => by
      fin_cases w <;> fin_cases s <;> rfl
    rcases t with ⟨_ | _, ht⟩
    · exact mayWait_debt c _ 0 1 1 hlv (fun _ => by decide) (by decide)
    · have h := mayWait_debt (F := F) c _ 0 16 16 hlv (fun h => by omega) (by decide)
      rw [debt_zero] at h
      exact h

/-- What a device's array holds at the end. -/
def finalOf (c : Dev nD) (w : Fin cfg0.W) : Buf (Elt F) ((cfg0.win w).arr.view.loc (c : Thread nD τ)) := (dats m 0 c).arrAt w cfg0.N

/-- What is read off the end of a run. -/
def Ends (s : MemSt nD τ sig (Elt F)) : Prop :=
  ∀ c : Dev nD, (∀ w : Fin cfg0.W, s.mem ((cfg0.win w).arr.view.loc (c : Thread nD τ)) = finalOf m c w)
    ∧ s.mem ((c : Thread nD τ).loc main_arg1) = m ((c : Thread nD τ).loc main_arg1)

set_option maxRecDepth 8000 in
/-- Whatever the floats, from any memory with the semaphores at zero: every run of the program ends, with `x` and `w` as
    they were, each device's result as computed, and the semaphores at zero. -/
theorem run_all : θ_run defs (onTc (τ := τ) (main (F := F))) ⟨m, fun _ => 0, ρ⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ declared_facts (Pipeline.PreFacts.none _) EP defs₀ 𝒱₀ m ρ main
    (hmain := fun _ => rfl)
    (hbody := body_meets m) (hne := block_pos0) (harr := arr_whole0) (hstage := stage_whole0) (hshare := share_full m)
    (hdistinct := winFacts0.arr_inj)
    (O₀ := owed₀) (howed₀ := fun _ => rfl) (howedN := fun _ => rfl)
    (L := L) (lv := lv) (hL := L_of_ne) (hwaits := staging_waits m)
    (G := minted m) (G' := dealt m) (u₀ := ghost₀)
    (hu₀ := by
      unfold ghost₀
      iintro Hu
      ihave H := (ownU_pair _ _) $$ Hu
      icases H with ⟨HP, HX⟩
      ihave H := (own_pair_emb _ _ _) $$ HX
      icases H with ⟨HX, -⟩
      imod (show BI.own (((Emb.inl : Emb UB (UB × Counters)).trans embR) (initOf shared allRights)) ⊢ (|==> bigSep Finset.univ (minted m) : sProp 𝕄) from mint m) $$ HX with HG
      imodintro
      isplitl [HP] <;> iassumption)
    (hglob := set_up m)
    (hA := fun _ _ => rfl) (hpf := fun _ k => k.elim0)
    (X := given m) (Y := fun c => iprop(unscopedSems0 c ∗ wPts m c)) (Z := fun _ => iprop(emp))
    (hX := given_intro m ρ) (hin := before_intro m) (hout := after_exit m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold wPts
      iintro ⟨⟨Hu, Hw⟩, -, HSI⟩
      icombine HSI Hw gives %h
      imod (Pipeline.unscopedSems0_read (X := unscopedSems0 c) (c := c) fupd_intro s') $$ [Hu HSI] with ⟨%hs, HSI⟩
      · isplitl [Hu] <;> iassumption
      imodintro
      isplitr
      · ipureintro; exact ⟨Buf.eq_of_forall_mem_univ h, hs⟩
      · iexact HSI)
    (hQ := fun _ h hs => ⟨fun c => ⟨fun w => (h c).1 w, (h c).2.2.1⟩, sem_eq_zero hs fun c => (h c).2.2.2⟩)

/-- `x` ends as it was; -/
theorem final_x (c : Dev nD) : finalOf m c (0 : Fin 2) = m ((c : Thread nD τ).loc main_arg0) :=
  (dats (F := F) m 0 c).arrAt_in (0 : Fin 2) rfl _

end Cert.Scatter

end
-- ==== Proof.Value.lean ====
/-
The values: over the extended reals, a device's result is its column block of `relu (x · w)`.
-/
module

public import proofs.«01_k».proof.Proof.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.Pipeline.Value

@[expose] public section

noncomputable section

namespace Cert.Scatter

open Cert.KernelIdeal Cert.KernelIdeal.Gen
open Idealize.ShloMosaic Idealize.ShloMosaic.ValueIdx
open Idealize.ShloMosaic.TcCoe

/-! ## The result array -/

section
variable {F : FTy → Type} [FloatOps F]
variable (m : (ℓ : Loc nD τ sig) → Buf (Elt F) ℓ)

/-- The window over the result is the whole array: its one block puts every index where it is. -/
theorem out_emb (t : Fin cfg0.N) (i : S8192x256.Idx) : ((win0_1.blk t).view.emb i : S8192x256.Idx) = i :=
  funext fun a => Fin.ext (by show 0 * S8192x256.size a + 1 * (i a).val = (i a).val; omega)

/-- The window over `x` likewise. -/
theorem x_emb (t : Fin cfg0.N) (i : S512x8192.Idx) : ((win0_0.blk t).view.emb i : S512x8192.Idx) = i :=
  funext fun a => Fin.ext (by show 0 * S512x8192.size a + 1 * (i a).val = (i a).val; omega)

/-- Each device's result array ends with the sixteen blocks sent to it. -/
theorem final_out (c : Dev nD) : finalOf m c (1 : Fin 2) = outAt m c :=
  (dats m 0 c).arrAt_eq_of_cover (1 : Fin 2) (outAt m c)
    (fun t _ => funext fun i => (congrArg (outAt m c) (out_emb t i)).symm)
    (fun i => ⟨t0_0, flush0_1 t0_0, Finset.mem_map.mpr ⟨i, Finset.mem_univ i, out_emb t0_0 i⟩⟩)

/-- The rows of `x` a device computes with are the ones its array holds; -/
theorem xAt_apply (c : Dev nD) (i : S512x8192.Idx) : xAt m c i = m ((c : Thread nD τ).loc main_arg0) i :=
  congrArg (m ((c : Thread nD τ).loc main_arg0)) (x_emb t0_0 i)

/-- and column block `d` of `w` starts at column `256 · d`. -/
theorem wcol_emb (d : Dev nD) (i : S8192x256.Idx) :
    (((wcolM d).view.emb i : S8192x4096.Idx) 0).val = (i 0).val
      ∧ (((wcolM d).view.emb i : S8192x4096.Idx) 1).val = 256 * d.val + (i 1).val := by
  constructor
  · show 0 + 1 * (i 0).val = _; omega
  · show 256 * d.val + 1 * (i 1).val = _; omega
end

/-! ## Over the extended reals -/

/-- A block's entry: a row of `x` against a column of `w`, and the greater of that and zero. -/
theorem tile_apply (x : FVec Ideal S512x8192 .f32) (w : FVec Ideal S8192x256 .f32) (a : Fin 512) (b : Fin 256) :
    tile x w (ix2 a b) = FloatOps.maximumf (F := Ideal) (φ := .f32) (∑ k : Fin 8192, x (ix2 a k) * w (ix2 k b)) (FloatOps.ofBits .f32 0x00000000#32) := by
  have h := Ideal.matmul_plain_apply (φ₁ := .f32) (φ₂ := .f32) none x w (constant S512x256 .f32 0x00000000#32) a b
  rw [show (constant S512x256 .f32 0x00000000#32 : FVec Ideal S512x256 .f32) (ix2 a b) = 0 from Ideal.ofBits_zero_f32, zero_add] at h
  exact congrArg (fun s => FloatOps.maximumf (F := Ideal) (φ := .f32) s (FloatOps.ofBits .f32 0x00000000#32)) h

/-- The shape of the whole `x`. -/
abbrev refX := Cert.ReferenceIdeal.S8192x8192
/-- The shape of the whole `w`, and of the whole result. -/
abbrev refW := Cert.ReferenceIdeal.S8192x4096

/-- The plain mathematics: `x · w`, negative entries replaced by zero. -/
def whole (x : FVec Ideal refX .f32) (w : FVec Ideal refW .f32) : FVec Ideal refW .f32 :=
  maximumf (Host.dotGeneral Cert.ReferenceIdeal.dot_S8192x8192_S8192x4096_S8192x4096_1_0_0_1_n_n none x w)
    (broadcastInDim refW ![] Cert.ReferenceIdeal.Facts₀.bcast_S_S8192x4096 (constant Cert.ReferenceIdeal.S_ .f32 0x00000000#32))

/-- Its entry, the same sum. -/
theorem whole_apply (x : FVec Ideal refX .f32) (w : FVec Ideal refW .f32) (a : Fin 8192) (b : Fin 4096) :
    whole x w (ix2 a b) = FloatOps.maximumf (F := Ideal) (φ := .f32) (∑ k : Fin 8192, x (ix2 a k) * w (ix2 k b)) (FloatOps.ofBits .f32 0x00000000#32) :=
  congrArg (fun s => FloatOps.maximumf (F := Ideal) (φ := .f32) s (FloatOps.ofBits .f32 0x00000000#32))
    (StackMember.dotGeneral_plain_apply (φ₁ := .f32) (φ₂ := .f32) none x w a b)

/-- When each device holds its rows of `X` and the whole of `W`, its result is its columns of the whole answer. -/
theorem out_eq (m : (ℓ : Loc nD τ sig) → Buf (Elt Ideal) ℓ) (X : FVec Ideal refX .f32) (W : FVec Ideal refW .f32)
    (hx : ∀ c : Dev nD, m ((c : Thread nD τ).loc main_arg0) = Layout.block ⟨2, ![512, 8192]⟩ ⟨2, ![8192, 8192]⟩ 0 16 c X)
    (hw : ∀ c : Dev nD, m ((c : Thread nD τ).loc main_arg1) = W) (d : Dev nD) :
    outAt m d = Layout.block ⟨2, ![8192, 256]⟩ ⟨2, ![8192, 4096]⟩ 1 16 d (whole X W) := by
  funext i
  rw [Layout.block_apply]
  rw [eq_ix2 (Layout.Tiles.idx _ d i)]
  refine Eq.trans ?_ (whole_apply X W _ _).symm
  unfold outAt sent
  rw [eq_ix2 (inRow i)]
  refine (tile_apply _ _ _ _).trans ?_
  refine congrArg (fun s => FloatOps.maximumf (F := Ideal) (φ := .f32) s (FloatOps.ofBits .f32 0x00000000#32)) (Finset.sum_congr rfl fun k _ => congrArg₂ (· * ·) ?_ ?_)
  · rw [xAt_apply, hx]
    refine congrArg X (Shape.idx_ext₂ ?_ rfl)
    show (i 0).val / 512 * 512 + (i 0).val % 512 = (i 0).val
    omega
  · unfold wAt
    rw [View.read_apply, hw]
    refine congrArg W (Shape.idx_ext₂ (wcol_emb d _).1 ((wcol_emb d _).2.trans ?_))
    show 256 * d.val + (i 1).val = d.val * 256 + (i 1).val
    omega

end Cert.Scatter

end
-- ==== Proof.lean ====
/-
The certificate: the distributed product `relu (x · w)` on sixteen devices, each holding a row block of `x` and ending
with a column block of the answer.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- Whatever the floats, the kernel ends, with its arguments as they were and every semaphore at zero. -/
theorem frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨((h.1 c).1 (0 : Fin 2)).trans (Scatter.final_x m c), (h.1 c).2⟩, h.2⟩)
    (Scatter.run_all m ρ)

set_option maxRecDepth 65536 in
set_option smartUnfolding false in
/-- So it does on the TPU's own floats, where its text is the same, -/
theorem frame_kernel : Cert.quiescent_Kernel := fun m ρ _ => frame (F := Bits) m ρ

/-- and over the extended reals. -/
theorem frame_ideal : Cert.quiescent_KernelIdeal := fun m ρ _ => frame (F := Ideal) m ρ

/-- The reference ends, with its arguments as they were and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, each device ends with its columns of what the reference computes. -/
theorem algebraic : Cert.algebraic_KernelIdeal_ReferenceIdeal := fun m ρ m' ρ' _ hArgs =>
  ⟨Scatter.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(((h.1 c).1 (1 : Fin 2)).trans (Scatter.final_out m c)).trans
          (Scatter.out_eq m _ _ (fun c => (hArgs c).1) (fun c => (hArgs c).2) c),
        ((h.1 c).1 (0 : Fin 2)).trans (Scatter.final_x m c), (h.1 c).2⟩)
      (Scatter.run_all (F := Ideal) m ρ),
    (θ_run Cert.ReferenceIdeal.defs _ _).mono (fun _ h => h 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
